-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "two_log2e" .f32 0x4038AA3B#32 ((2 * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "bn_log_k" .f32 0x45DDCE9E#32 ((1024 * (Real.log 1024) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x256 : Shape := ⟨3, ![8, 1024, 256]⟩
abbrev S1024x256 : Shape := ⟨2, ![1024, 256]⟩
abbrev S_ : Shape := ⟨0, ![]⟩

class Facts : Prop where
  bcast_S_S8x1024x256 : S_.BroadcastsInDim S8x1024x256 (![] : Fin 0 → Fin S8x1024x256.rank)
  bcast_S_S1024x256 : S_.BroadcastsInDim S1024x256 (![] : Fin 0 → Fin S1024x256.rank)

variable [Facts]

def fn {F : FTy → Type} [FloatOps F] (main_arg0 : FVec F S8x1024x256 .f32) (main_arg1 : FVec F S8x1024x256 .f32) (main_arg2 : FVec F S1024x256 .f32) (main_arg3 : FVec F S1024x256 .f32) : IVec S8x1024x256 1 × IVec S8x1024x256 1 × IVec S1024x256 1 × IVec S1024x256 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_v3 : FVec F S8x1024x256 .f32 := Host.absf main_arg1
  let main_cst_0 : FVec F S_ .f32 := constant S_ .f32 0x7F800000#32
  let main_v4 : FVec F S8x1024x256 .f32 := broadcastInDim S8x1024x256 ![] bcast_S_S8x1024x256 main_cst_0
  let main_v5 : IVec S8x1024x256 1 := cmpf .olt main_v3 main_v4
  let main_v6 : FVec F S1024x256 .f32 := Host.absf main_arg2
  let main_cst_1 : FVec F S_ .f32 := constant S_ .f32 0x7F800000#32
  let main_v7 : FVec F S1024x256 .f32 := broadcastInDim S1024x256 ![] bcast_S_S1024x256 main_cst_1
  let main_v8 : IVec S1024x256 1 := cmpf .olt main_v6 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  (main_v2, main_v5, main_v8, main_v11)
-- ==== Kernel.lean ====
abbrev S8x1024x256 : Shape := ⟨3, ![8, 1024, 256]⟩
abbrev S1024x256 : Shape := ⟨2, ![1024, 256]⟩
abbrev S8192x256 : Shape := ⟨2, ![8192, 256]⟩
abbrev S8192x512 : Shape := ⟨2, ![8192, 512]⟩
abbrev S8x1x1 : Shape := ⟨3, ![8, 1, 1]⟩
abbrev S1024x512 : Shape := ⟨2, ![1024, 512]⟩
abbrev S1x1x1 : Shape := ⟨3, ![1, 1, 1]⟩
abbrev S2x1024x256 : Shape := ⟨3, ![2, 1024, 256]⟩
abbrev S2x1024 : Shape := ⟨2, ![2, 1024]⟩
abbrev S1x1024x256 : Shape := ⟨3, ![1, 1024, 256]⟩
abbrev S1x256 : Shape := ⟨2, ![1, 256]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024x1 : Shape := ⟨3, ![1, 1024, 1]⟩
abbrev S_ : Shape := ⟨0, ![]⟩
abbrev S8x1024x512 : Shape := ⟨3, ![8, 1024, 512]⟩

abbrev nBuf : Space → Nat
  | .hbm => 21
  | .vmem => 16
  | .smem => 0
  | _ => 0

abbrev bufTy : (tb : Table) → Fin (tcTables nBuf tb) → BufTy
  | .hbm, ⟨0, _⟩ => ⟨S8x1024x256, .f32⟩
  | .hbm, ⟨1, _⟩ => ⟨S8x1024x256, .f32⟩
  | .hbm, ⟨2, _⟩ => ⟨S1024x256, .f32⟩
  | .hbm, ⟨3, _⟩ => ⟨S1024x256, .f32⟩
  | .hbm, ⟨4, _⟩ => ⟨S8192x256, .f32⟩
  | .hbm, ⟨5, _⟩ => ⟨S8192x256, .f32⟩
  | .hbm, ⟨6, _⟩ => ⟨S8192x512, .f32⟩
  | .hbm, ⟨7, _⟩ => ⟨S8x1x1, .f32⟩
  | .hbm, ⟨8, _⟩ => ⟨S8x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x1024x512, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x512, .f32⟩
  | .local _ .vmem, ⟨7, _⟩ => ⟨S1024x512, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S2x1024x256, .bf16⟩
  | .local _ .vmem, ⟨13, _⟩ => ⟨S2x1024, .f32⟩
  | .local _ .vmem, ⟨14, _⟩ => ⟨S2x1024x256, .bf16⟩
  | .local _ .vmem, ⟨15, _⟩ => ⟨S2x1024, .bf16⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "bn_log_k" => some ((1024 * (Real.log 1024) : ℝ) : EReal)
  | "log2e" => some (((Real.log 2)⁻¹ : ℝ) : EReal)
  | "two_log2e" => some ((2 * (Real.log 2)⁻¹ : ℝ) : EReal)
  | _ => none
-- ==== ReferenceIdeal.lean ====
abbrev S8x1024x256 : Shape := ⟨3, ![8, 1024, 256]⟩
abbrev S1024x256 : Shape := ⟨2, ![1024, 256]⟩
abbrev S_ : Shape := ⟨0, ![]⟩
abbrev S8x1024 : Shape := ⟨2, ![8, 1024]⟩
abbrev S8x1024x1 : Shape := ⟨3, ![8, 1024, 1]⟩
abbrev S8x1024x1024 : Shape := ⟨3, ![8, 1024, 1024]⟩
abbrev S1024 : Shape := ⟨1, ![1024]⟩
abbrev S1x1x1024 : Shape := ⟨3, ![1, 1, 1024]⟩
abbrev S8x1024x512 : Shape := ⟨3, ![8, 1024, 512]⟩

abbrev nBuf : Space → Nat
  | .hbm => 230
  | .vmem => 0
  | .smem => 0
  | _ => 0

abbrev hbmTy0_0 (i : Nat) : BufTy := match i % 128 with
  | 0 => ⟨S8x1024x256, .f32⟩
  | 1 => ⟨S8x1024x256, .f32⟩
  | 2 => ⟨S1024x256, .f32⟩
  | 3 => ⟨S1024x256, .f32⟩
  | 4 => ⟨S_, .f32⟩
  | 5 => ⟨S_, .f32⟩
  | 6 => ⟨S_, .f32⟩
  | 7 => ⟨S8x1024x256, .f32⟩
  | 8 => ⟨S8x1024x256, .f32⟩
  | 9 => ⟨S_, .f32⟩
  | 10 => ⟨S8x1024, .f32⟩
  | 11 => ⟨S8x1024x1, .f32⟩
  | 12 => ⟨S8x1024x1024, .f32⟩
  | 13 => ⟨S_, .f32⟩
  | 14 => ⟨S8x1024x1024, .f32⟩
  | 15 => ⟨S8x1024x1024, .f32⟩
  | 16 => ⟨S8x1024x1024, .f32⟩
  | 17 => ⟨S8x1024x1024, .f32⟩
  | 18 => ⟨S1024x256, .f32⟩
  | 19 => ⟨S_, .f32⟩
  | 20 => ⟨S1024, .f32⟩
  | 21 => ⟨S1x1x1024, .f32⟩
  | 22 => ⟨S8x1024x1024, .f32⟩
  | 23 => ⟨S8x1024x1024, .f32⟩
  | 24 => ⟨S8x1024x1024, .f32⟩
  | 25 => ⟨S_, .f32⟩
  | 26 => ⟨S8x1024x1024, .f32⟩
  | 27 => ⟨S8x1024x1024, .f32⟩
  | 28 => ⟨S_, .f32⟩
  | 29 => ⟨S8x1024, .f32⟩
  | 30 => ⟨S_, .f32⟩
  | 31 => ⟨S8x1024, .f32⟩
  | 32 => ⟨S8x1024, .f32⟩
  | 33 => ⟨S8x1024x1, .f32⟩
  | 34 => ⟨S8x1024x1024, .f32⟩
  | 35 => ⟨S8x1024x1024, .f32⟩
  | 36 => ⟨S8x1024x1024, .f32⟩
  | 37 => ⟨S_, .f32⟩
  | 38 => ⟨S8x1024, .f32⟩
  | 39 => ⟨S8x1024x1, .f32⟩
  | 40 => ⟨S8x1024x1, .f32⟩
  | 41 => ⟨S8x1024x1024, .f32⟩
  | 42 => ⟨S8x1024x1024, .f32⟩
  | 43 => ⟨S8x1024x1024, .f32⟩
  | 44 => ⟨S8x1024x256, .f32⟩
  | 45 => ⟨S8x1024x1024, .f32⟩
  | 46 => ⟨S8x1024x1024, .f32⟩
  | 47 => ⟨S8x1024x1024, .f32⟩
  | 48 => ⟨S_, .f32⟩
  | 49 => ⟨S8x1024, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S8x1024x256, .f32⟩
  | 57 => ⟨S8x1024x256, .f32⟩
  | 58 => ⟨S8x1024x256, .f32⟩
  | 59 => ⟨S_, .f32⟩
  | 60 => ⟨S8x1024, .f32⟩
  | 61 => ⟨S8x1024x1, .f32⟩
  | 62 => ⟨S8x1024x1024, .f32⟩
  | 63 => ⟨S_, .f32⟩
  | 64 => ⟨S8x1024x1024, .f32⟩
  | 65 => ⟨S8x1024x1024, .f32⟩
  | 66 => ⟨S8x1024x1024, .f32⟩
  | 67 => ⟨S8x1024x1024, .f32⟩
  | 68 => ⟨S1024x256, .f32⟩
  | 69 => ⟨S_, .f32⟩
  | 70 => ⟨S1024, .f32⟩
  | 71 => ⟨S1x1x1024, .f32⟩
  | 72 => ⟨S8x1024x1024, .f32⟩
  | 73 => ⟨S8x1024x1024, .f32⟩
  | 74 => ⟨S8x1024x1024, .f32⟩
  | 75 => ⟨S_, .f32⟩
  | 76 => ⟨S8x1024x1024, .f32⟩
  | 77 => ⟨S8x1024x1024, .f32⟩
  | 78 => ⟨S_, .f32⟩
  | 79 => ⟨S8x1024, .f32⟩
  | 80 => ⟨S_, .f32⟩
  | 81 => ⟨S8x1024, .f32⟩
  | 82 => ⟨S8x1024, .f32⟩
  | 83 => ⟨S8x1024x1, .f32⟩
  | 84 => ⟨S8x1024x1024, .f32⟩
  | 85 => ⟨S8x1024x1024, .f32⟩
  | 86 => ⟨S8x1024x1024, .f32⟩
  | 87 => ⟨S_, .f32⟩
  | 88 => ⟨S8x1024, .f32⟩
  | 89 => ⟨S8x1024x1, .f32⟩
  | 90 => ⟨S8x1024x1, .f32⟩
  | 91 => ⟨S8x1024x1024, .f32⟩
  | 92 => ⟨S8x1024x1024, .f32⟩
  | 93 => ⟨S8x1024x1024, .f32⟩
  | 94 => ⟨S8x1024x256, .f32⟩
  | 95 => ⟨S8x1024x1024, .f32⟩
  | 96 => ⟨S8x1024x1024, .f32⟩
  | 97 => ⟨S8x1024x1024, .f32⟩
  | 98 => ⟨S_, .f32⟩
  | 99 => ⟨S8x1024, .f32⟩
  | 100 => ⟨S_, .f32⟩
  | 101 => ⟨S_, .f32⟩
  | 102 => ⟨S_, .f32⟩
  | 103 => ⟨S_, .f32⟩
  | 104 => ⟨S_, .f32⟩
  | 105 => ⟨S8x1024x256, .f32⟩
  | 106 => ⟨S8x1024x256, .f32⟩
  | 107 => ⟨S8x1024x256, .f32⟩
  | 108 => ⟨S8x1024x256, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S8x1024x256, .f32⟩
  | 120 => ⟨S8x1024x256, .f32⟩
  | 121 => ⟨S_, .f32⟩
  | 122 => ⟨S8x1024, .f32⟩
  | 123 => ⟨S8x1024x1, .f32⟩
  | 124 => ⟨S8x1024x1024, .f32⟩
  | 125 => ⟨S_, .f32⟩
  | 126 => ⟨S8x1024x1024, .f32⟩
  | 127 => ⟨S8x1024x1024, .f32⟩
  | _ => ⟨S8x1024x256, .f32⟩

abbrev hbmTy0_1 (i : Nat) : BufTy := match i % 128 with
  | 0 => ⟨S8x1024x1024, .f32⟩
  | 1 => ⟨S8x1024x1024, .f32⟩
  | 2 => ⟨S1024x256, .f32⟩
  | 3 => ⟨S_, .f32⟩
  | 4 => ⟨S1024, .f32⟩
  | 5 => ⟨S1x1x1024, .f32⟩
  | 6 => ⟨S8x1024x1024, .f32⟩
  | 7 => ⟨S8x1024x1024, .f32⟩
  | 8 => ⟨S8x1024x1024, .f32⟩
  | 9 => ⟨S_, .f32⟩
  | 10 => ⟨S8x1024x1024, .f32⟩
  | 11 => ⟨S8x1024x1024, .f32⟩
  | 12 => ⟨S_, .f32⟩
  | 13 => ⟨S8x1024, .f32⟩
  | 14 => ⟨S_, .f32⟩
  | 15 => ⟨S8x1024, .f32⟩
  | 16 => ⟨S8x1024, .f32⟩
  | 17 => ⟨S8x1024x1, .f32⟩
  | 18 => ⟨S8x1024x1024, .f32⟩
  | 19 => ⟨S8x1024x1024, .f32⟩
  | 20 => ⟨S8x1024x1024, .f32⟩
  | 21 => ⟨S_, .f32⟩
  | 22 => ⟨S8x1024, .f32⟩
  | 23 => ⟨S8x1024x1, .f32⟩
  | 24 => ⟨S8x1024x1, .f32⟩
  | 25 => ⟨S8x1024x1024, .f32⟩
  | 26 => ⟨S8x1024x1024, .f32⟩
  | 27 => ⟨S8x1024x1024, .f32⟩
  | 28 => ⟨S8x1024x256, .f32⟩
  | 29 => ⟨S8x1024x1024, .f32⟩
  | 30 => ⟨S8x1024x1024, .f32⟩
  | 31 => ⟨S8x1024x1024, .f32⟩
  | 32 => ⟨S_, .f32⟩
  | 33 => ⟨S8x1024, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S8x1024x256, .f32⟩
  | 41 => ⟨S8x1024x256, .f32⟩
  | 42 => ⟨S8x1024x256, .f32⟩
  | 43 => ⟨S_, .f32⟩
  | 44 => ⟨S8x1024, .f32⟩
  | 45 => ⟨S8x1024x1, .f32⟩
  | 46 => ⟨S8x1024x1024, .f32⟩
  | 47 => ⟨S_, .f32⟩
  | 48 => ⟨S8x1024x1024, .f32⟩
  | 49 => ⟨S8x1024x1024, .f32⟩
  | 50 => ⟨S8x1024x1024, .f32⟩
  | 51 => ⟨S8x1024x1024, .f32⟩
  | 52 => ⟨S1024x256, .f32⟩
  | 53 => ⟨S_, .f32⟩
  | 54 => ⟨S1024, .f32⟩
  | 55 => ⟨S1x1x1024, .f32⟩
  | 56 => ⟨S8x1024x1024, .f32⟩
  | 57 => ⟨S8x1024x1024, .f32⟩
  | 58 => ⟨S8x1024x1024, .f32⟩
  | 59 => ⟨S_, .f32⟩
  | 60 => ⟨S8x1024x1024, .f32⟩
  | 61 => ⟨S8x1024x1024, .f32⟩
  | 62 => ⟨S_, .f32⟩
  | 63 => ⟨S8x1024, .f32⟩
  | 64 => ⟨S_, .f32⟩
  | 65 => ⟨S8x1024, .f32⟩
  | 66 => ⟨S8x1024, .f32⟩
  | 67 => ⟨S8x1024x1, .f32⟩
  | 68 => ⟨S8x1024x1024, .f32⟩
  | 69 => ⟨S8x1024x1024, .f32⟩
  | 70 => ⟨S8x1024x1024, .f32⟩
  | 71 => ⟨S_, .f32⟩
  | 72 => ⟨S8x1024, .f32⟩
  | 73 => ⟨S8x1024x1, .f32⟩
  | 74 => ⟨S8x1024x1, .f32⟩
  | 75 => ⟨S8x1024x1024, .f32⟩
  | 76 => ⟨S8x1024x1024, .f32⟩
  | 77 => ⟨S8x1024x1024, .f32⟩
  | 78 => ⟨S8x1024x256, .f32⟩
  | 79 => ⟨S8x1024x1024, .f32⟩
  | 80 => ⟨S8x1024x1024, .f32⟩
  | 81 => ⟨S8x1024x1024, .f32⟩
  | 82 => ⟨S_, .f32⟩
  | 83 => ⟨S8x1024, .f32⟩
  | 84 => ⟨S_, .f32⟩
  | 85 => ⟨S_, .f32⟩
  | 86 => ⟨S_, .f32⟩
  | 87 => ⟨S_, .f32⟩
  | 88 => ⟨S_, .f32⟩
  | 89 => ⟨S8x1024x256, .f32⟩
  | 90 => ⟨S8x1024x256, .f32⟩
  | 91 => ⟨S8x1024x256, .f32⟩
  | 92 => ⟨S8x1024x256, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S8x1024x512, .f32⟩
  | _ => ⟨S8x1024x256, .f32⟩

abbrev hbmTy (i : Nat) : BufTy := match i / 128 with
  | 0 => hbmTy0_0 i
  | 1 => hbmTy0_1 i
  | _ => ⟨S8x1024x256, .f32⟩

abbrev bufTy : (tb : Table) → Fin (tcTables nBuf tb) → BufTy
  | .hbm, ⟨i, _⟩ => hbmTy i
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_cst_6 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_10 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_12 : Ref sig .tc := ⟨.hbm, 75, rfl⟩
abbrev main_v44 : Ref sig .tc := ⟨.hbm, 76, rfl⟩
abbrev main_v45 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_13 : Ref sig .tc := ⟨.hbm, 98, rfl⟩
abbrev main_v52 : Ref sig .tc := ⟨.hbm, 99, rfl⟩
abbrev main_cst_14 : Ref sig .tc := ⟨.hbm, 100, rfl⟩
abbrev main_v53 : Ref sig .tc := ⟨.hbm, 101, rfl⟩
abbrev main_cst_15 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_16 : Ref sig .tc := ⟨.hbm, 109, rfl⟩
abbrev main_v60 : Ref sig .tc := ⟨.hbm, 110, rfl⟩
abbrev main_cst_17 : Ref sig .tc := ⟨.hbm, 111, rfl⟩
abbrev main_v61 : Ref sig .tc := ⟨.hbm, 112, rfl⟩
abbrev main_cst_18 : Ref sig .tc := ⟨.hbm, 113, rfl⟩
abbrev main_v62 : Ref sig .tc := ⟨.hbm, 114, rfl⟩
abbrev main_v63 : Ref sig .tc := ⟨.hbm, 115, rfl⟩
abbrev main_cst_19 : Ref sig .tc := ⟨.hbm, 116, rfl⟩
abbrev main_v64 : Ref sig .tc := ⟨.hbm, 117, rfl⟩
abbrev main_cst_20 : Ref sig .tc := ⟨.hbm, 118, rfl⟩
abbrev main_v65 : Ref sig .tc := ⟨.hbm, 119, rfl⟩
abbrev main_v66 : Ref sig .tc := ⟨.hbm, 120, rfl⟩
abbrev main_cst_21 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_22 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_23 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_24 : Ref sig .tc := ⟨.hbm, 137, rfl⟩
abbrev main_v80 : Ref sig .tc := ⟨.hbm, 138, rfl⟩
abbrev main_v81 : Ref sig .tc := ⟨.hbm, 139, rfl⟩
abbrev main_call2_cst : Ref sig .tc := ⟨.hbm, 140, rfl⟩
abbrev main_call2_v0 : Ref sig .tc := ⟨.hbm, 141, rfl⟩
abbrev main_call2_cst_0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_v6 : Ref sig .tc := ⟨.hbm, 148, rfl⟩
abbrev main_call2_cst_1 : Ref sig .tc := ⟨.hbm, 149, rfl⟩
abbrev main_call2_v7 : Ref sig .tc := ⟨.hbm, 150, rfl⟩
abbrev main_call2_v8 : Ref sig .tc := ⟨.hbm, 151, rfl⟩
abbrev main_call2_v9 : Ref sig .tc := ⟨.hbm, 152, rfl⟩
abbrev main_call2_v10 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_cst_25 : Ref sig .tc := ⟨.hbm, 160, rfl⟩
abbrev main_v88 : Ref sig .tc := ⟨.hbm, 161, rfl⟩
abbrev main_cst_26 : Ref sig .tc := ⟨.hbm, 162, rfl⟩
abbrev main_v89 : Ref sig .tc := ⟨.hbm, 163, rfl⟩
abbrev main_cst_27 : Ref sig .tc := ⟨.hbm, 164, rfl⟩
abbrev main_v90 : Ref sig .tc := ⟨.hbm, 165, rfl⟩
abbrev main_cst_28 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_cst_29 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_cst_30 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_cst_31 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_cst_32 : Ref sig .tc := ⟨.hbm, 187, rfl⟩
abbrev main_v108 : Ref sig .tc := ⟨.hbm, 188, rfl⟩
abbrev main_v109 : Ref sig .tc := ⟨.hbm, 189, rfl⟩
abbrev main_call3_cst : Ref sig .tc := ⟨.hbm, 190, rfl⟩
abbrev main_call3_v0 : Ref sig .tc := ⟨.hbm, 191, rfl⟩
abbrev main_call3_cst_0 : Ref sig .tc := ⟨.hbm, 192, rfl⟩
abbrev main_call3_v1 : Ref sig .tc := ⟨.hbm, 193, rfl⟩
abbrev main_call3_v2 : Ref sig .tc := ⟨.hbm, 194, rfl⟩
abbrev main_call3_v3 : Ref sig .tc := ⟨.hbm, 195, rfl⟩
abbrev main_call3_v4 : Ref sig .tc := ⟨.hbm, 196, rfl⟩
abbrev main_call3_v5 : Ref sig .tc := ⟨.hbm, 197, rfl⟩
abbrev main_call3_v6 : Ref sig .tc := ⟨.hbm, 198, rfl⟩
abbrev main_call3_cst_1 : Ref sig .tc := ⟨.hbm, 199, rfl⟩
abbrev main_call3_v7 : Ref sig .tc := ⟨.hbm, 200, rfl⟩
abbrev main_call3_v8 : Ref sig .tc := ⟨.hbm, 201, rfl⟩
abbrev main_call3_v9 : Ref sig .tc := ⟨.hbm, 202, rfl⟩
abbrev main_call3_v10 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_cst_33 : Ref sig .tc := ⟨.hbm, 210, rfl⟩
abbrev main_v116 : Ref sig .tc := ⟨.hbm, 211, rfl⟩
abbrev main_cst_34 : Ref sig .tc := ⟨.hbm, 212, rfl⟩
abbrev main_v117 : Ref sig .tc := ⟨.hbm, 213, rfl⟩
abbrev main_cst_35 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_cst_36 : Ref sig .tc := ⟨.hbm, 221, rfl⟩
abbrev main_v124 : Ref sig .tc := ⟨.hbm, 222, rfl⟩
abbrev main_cst_37 : Ref sig .tc := ⟨.hbm, 223, rfl⟩
abbrev main_v125 : Ref sig .tc := ⟨.hbm, 224, rfl⟩
abbrev main_cst_38 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩

abbrev nD : Nat := 1
abbrev τ : Topo := Topo.v7x

variable {F : FTy → Type} [FloatOps F]
-- ==== Proof.BodyKernelIdeal.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.Tactic

@[expose] public section

set_option maxRecDepth 16384

noncomputable section

/-! The frame run of `KernelIdeal`: what one grid point stores, the two cases of the point (the first prepares the four
    carried buffers, the later ones read them), and the run of the whole program with every buffer's final contents. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body touches -/

/-- A whole latent or codebook block. -/
abbrev rL : Rect S1024x256 := Rect.unit (s := S1024x256) ![0, 0] S1024x256.size inb_S1024x256_S1024x256_0_0
/-- Codebook 0's matrix in a carried pair of matrices. -/
abbrev rM0 : Rect S2x1024x256 := Rect.unit (s := S2x1024x256) ![0, 0, 0] S1x1024x256.size inb_S2x1024x256_S1x1024x256_0_0_0
/-- Codebook 1's matrix in a carried pair of matrices. -/
abbrev rM1 : Rect S2x1024x256 := Rect.unit (s := S2x1024x256) ![1, 0, 0] S1x1024x256.size inb_S2x1024x256_S1x1024x256_1_0_0
/-- Codebook 0's row in a carried pair of rows. -/
abbrev rR0 : Rect S2x1024 := Rect.unit (s := S2x1024) ![0, 0] S1x1024.size inb_S2x1024_S1x1024_0_0
/-- Codebook 1's row in a carried pair of rows. -/
abbrev rR1 : Rect S2x1024 := Rect.unit (s := S2x1024) ![1, 0] S1x1024.size inb_S2x1024_S1x1024_1_0
/-- Both rows. -/
abbrev rRR : Rect S2x1024 := Rect.unit (s := S2x1024) ![0, 0] S2x1024.size inb_S2x1024_S2x1024_0_0
/-- The left half of an output block. -/
abbrev rO0 : Rect S1024x512 := Rect.unit (s := S1024x512) ![0, 0] S1024x256.size inb_S1024x512_S1024x256_0_0
/-- The right half of an output block. -/
abbrev rO1 : Rect S1024x512 := Rect.unit (s := S1024x512) ![0, 256] S1024x256.size inb_S1024x512_S1024x256_0_256
/-- The one cell of a partial sum's block. -/
abbrev rP : Rect S1x1x1 := Rect.unit (s := S1x1x1) ![0, 0, 0] S1x1x1.size inb_S1x1x1_S1x1x1_0_0_0

/-! ## What the first point prepares from the codebooks `x3`, `x4` -/

/-- The scaled codebooks. -/
def pre8 (x3 x4 : Vec F S1024x256 .f32) : Vec F S2x1024x256 .bf16 :=
  View.canon [⟨rM1, k0_pay8 (View.ld x4 rL)⟩, ⟨rM0, k0_pay3 (View.ld x3 rL)⟩]
/-- The scaled squared norms. -/
def pre9 (x3 x4 : Vec F S1024x256 .f32) : Vec F S2x1024 .f32 :=
  View.canon [⟨rR1, k0_pay9 (k0_pay7 (View.ld x4 rL)) (Named.named κ "log2e" 0x3FB8AA3B#32)⟩, ⟨rR0, k0_pay4 (View.ld x3 rL)⟩]
/-- The codebooks. -/
def pre10 (x3 x4 : Vec F S1024x256 .f32) : Vec F S2x1024x256 .bf16 :=
  View.canon [⟨rM1, k0_pay10 (View.ld x4 rL)⟩, ⟨rM0, k0_pay5 (View.ld x3 rL)⟩]
/-- The squared norms. -/
def pre11 (x3 x4 : Vec F S1024x256 .f32) : Vec F S2x1024 .bf16 :=
  View.canon [⟨rR1, k0_pay11 (k0_pay7 (View.ld x4 rL))⟩, ⟨rR0, k0_pay6 (View.ld x3 rL)⟩]

/-! ## What every point stores, from its latent blocks `x1`, `x2` and the carried buffers `s8` … `s11` -/

/-- The carried buffers' contents, and a point's two latent blocks. -/
structure Ctx (F : FTy → Type) where
  x1 : Vec F S1024x256 .f32
  x2 : Vec F S1024x256 .f32
  s8 : Vec F S2x1024x256 .bf16
  s9 : Vec F S2x1024 .f32
  s10 : Vec F S2x1024x256 .bf16
  s11 : Vec F S2x1024 .bf16

namespace Ctx
variable (X : Ctx F)
abbrev v3 : Vec F S1024x256 .f32 := View.ld X.x1 rL
abbrev v5 : Vec F S1024x256 .f32 := View.ld X.x2 rL
abbrev a0 : Vec F S1x1024x256 .bf16 := View.ld X.s8 rM0
abbrev a1 : Vec F S1x1024x256 .bf16 := View.ld X.s8 rM1
abbrev b0 : Vec F S1x1024 .f32 := View.ld X.s9 rR0
abbrev b1 : Vec F S1x1024 .f32 := View.ld X.s9 rR1
abbrev c0 : Vec F S1x1024x256 .bf16 := View.ld X.s10 rM0
abbrev c1 : Vec F S1x1024x256 .bf16 := View.ld X.s10 rM1
abbrev d0 : Vec F S1x1024 .bf16 := View.ld X.s11 rR0
abbrev d1 : Vec F S1x1024 .bf16 := View.ld X.s11 rR1
def v4 := k0_pay12 X.v3
def v6 := k0_pay13 X.v5
def v15 := k0_pay14 X.v3 X.a0 X.b0
def v24 := k0_pay15 X.v5 X.a1 X.b1
def v27 := k0_pay16 X.v3 X.a0 X.b0 X.c0
def v30 := k0_pay17 X.v5 X.a1 X.b1 X.c1
def v31 := k0_pay18 X.v3 X.a0 X.b0
def v63 := k0_pay22 X.v4 X.v15 X.v27 X.v31 X.d0
def v64 := k0_pay23 X.v4 X.v27 X.v31
def v67 := k0_pay24 X.v24
def v73 := k0_pay25 X.v24 X.d1
def v75 := k0_pay26 X.v24
def v97 := k0_pay28 X.v6 X.v30 X.v67 X.v73 X.v75
def v98 := k0_pay29 X.v6 X.v30 X.v75
def v107 := k0_pay30 X.v64 X.a0 X.b0
def v116 := k0_pay31 X.v6 X.v30 X.v75 X.a1 X.b1
def v122 := k0_pay32 X.v116 X.c1
def v155 := k0_pay36 X.v63 X.v64 X.v107 X.c0 X.d0
def v156 := k0_pay37 X.v64 X.v107 X.c0
def v158 := k0_pay38 X.v116
def v190 := k0_pay42 X.v98 X.v122 X.v158
def v199 := k0_pay46 X.v156
/-- The two halves of the quantized block. -/
def out4 : Vec F S1024x512 .f32 :=
  View.canon [⟨rO1, k0_pay44 X.v6 X.v98 X.v122 X.v158⟩, ⟨rO0, k0_pay43 X.v4 X.v156⟩]
/-- The block's sum of divergences. -/
def out5 : Vec F S1x1x1 .f32 := View.canon [⟨rP, k0_pay45 X.v97 X.v98 X.v116 X.v122 X.v155 X.v158 X.d1⟩]
/-- The block's sum of squared remainders. -/
def out6 : Vec F S1x1x1 .f32 := View.canon [⟨rP, k0_pay1 X.v190 X.v199⟩]
end Ctx

/-- A point's blocks over the buffers the first point prepares. -/
def ctx (x1 x2 x3 x4 : Vec F S1024x256 .f32) : Ctx F := ⟨x1, x2, pre8 x3 x4, pre9 x3 x4, pre10 x3 x4, pre11 x3 x4⟩

theorem cover4 (p0 p1 : Vec F S1024x256 .f32) (y : S1024x512.Idx) :
    ∃ pc ∈ ([⟨rO1, p0⟩, ⟨rO0, p1⟩] : List (View.Piece (Elt F) S1024x512 .f32)), y ∈ pc.1.set :=
  View.cover_of_tiled [⟨rO1, p0⟩, ⟨rO0, p1⟩] S1024x256.size (by rfl) y
theorem coverP (p0 : Vec F S1x1x1 .f32) (y : S1x1x1.Idx) :
    ∃ pc ∈ ([⟨rP, p0⟩] : List (View.Piece (Elt F) S1x1x1 .f32)), y ∈ pc.1.set :=
  View.cover_of_tiled [⟨rP, p0⟩] S1x1x1.size (by rfl) y
theorem coverM (p0 p1 : Vec F S1x1024x256 .bf16) (y : S2x1024x256.Idx) :
    ∃ pc ∈ ([⟨rM1, p0⟩, ⟨rM0, p1⟩] : List (View.Piece (Elt F) S2x1024x256 .bf16)), y ∈ pc.1.set :=
  View.cover_of_tiled [⟨rM1, p0⟩, ⟨rM0, p1⟩] S1x1024x256.size (by rfl) y
theorem coverR (p0 p1 : Vec F S1x1024 .f32) (y : S2x1024.Idx) :
    ∃ pc ∈ ([⟨rR1, p0⟩, ⟨rR0, p1⟩] : List (View.Piece (Elt F) S2x1024 .f32)), y ∈ pc.1.set :=
  View.cover_of_tiled [⟨rR1, p0⟩, ⟨rR0, p1⟩] S1x1024.size (by rfl) y

theorem coverH (p0 p1 : Vec F S1x1024 .bf16) (y : S2x1024.Idx) :
    ∃ pc ∈ ([⟨rR1, p0⟩, ⟨rR0, p1⟩] : List (View.Piece (Elt F) S2x1024 .bf16)), y ∈ pc.1.set :=
  View.cover_of_tiled [⟨rR1, p0⟩, ⟨rR0, p1⟩] S1x1024.size (by rfl) y
theorem coverRR (w : Vec F S2x1024 .bf16) (L : List (View.Piece (Elt F) S2x1024 .bf16)) (y : S2x1024.Idx) :
    ∃ pc ∈ (⟨rRR, w⟩ :: L : List (View.Piece (Elt F) S2x1024 .bf16)), y ∈ pc.1.set :=
  ⟨_, List.mem_cons_self, by
    rw [Rect.mem_set_unit]; intro a; fin_cases a
    · exact ⟨Nat.zero_le _, (y 0).isLt⟩
    · exact ⟨Nat.zero_le _, (y 1).isLt⟩⟩

/-- Both rows written whole. -/
theorem canon_both (w : Vec F S2x1024 .bf16) (L : List (View.Piece (Elt F) S2x1024 .bf16)) :
    View.canon (⟨rRR, w⟩ :: L) = w :=
  View.canon_cons_unit_zero (by funext a; fin_cases a <;> rfl) _ w L

theorem upd_hit {α : Type} (w : S2x1024.Idx → α) (u : S1x1024.Idx → α) (n : ℕ) (h : S2x1024.Slices ![n, 0] S1x1024)
    (y : S2x1024.Idx) (x : S1x1024.Idx) (h0 : (y 0).val = n) (h1 : (y 1).val = (x 1).val) :
    Idealize.ShloMosaic.updateSlice w u ![n, 0] h y = u x := by
  unfold Idealize.ShloMosaic.updateSlice
  rw [dif_pos]
  · congr 1; funext k
    apply Fin.ext
    fin_cases k
    · have := (x 0).isLt
      have e : (x 0).val = 0 := Nat.lt_one_iff.1 this
      show (y 0).val - n = (x 0).val
      omega
    · show (y 1).val - 0 = (x 1).val
      omega
  · intro k; fin_cases k
    · show n ≤ (y 0).val ∧ (y 0).val < n + 1
      omega
    · exact ⟨Nat.zero_le _, by show (y 1).val < 0 + 1024; have : (y 1).val < 1024 := (y 1).isLt; omega⟩

theorem upd_miss {α : Type} (w : S2x1024.Idx → α) (u : S1x1024.Idx → α) (n : ℕ) (h : S2x1024.Slices ![n, 0] S1x1024)
    (y : S2x1024.Idx) (h0 : (y 0).val < n) :
    Idealize.ShloMosaic.updateSlice w u ![n, 0] h y = w y := by
  unfold Idealize.ShloMosaic.updateSlice
  rw [dif_neg]
  intro hk
  have := (hk 0).1
  have h2 : n ≤ (y 0).val := this
  omega

/-- A pair of rows written one row at a time, each time by rewriting the pair, holds the two rows. -/
theorem two_rows (w : Vec F S2x1024 .bf16) (a b : Vec F S1x1024 .bf16) (L : List (View.Piece (Elt F) S2x1024 .bf16))
    (ha : S2x1024.Slices ![0, 0] S1x1024) (hb : S2x1024.Slices ![1, 0] S1x1024) :
    View.canon (⟨rRR, Idealize.ShloMosaic.updateSlice (Idealize.ShloMosaic.updateSlice w a ![0, 0] ha) b ![1, 0] hb⟩ :: L)
      = View.canon [⟨rR1, b⟩, ⟨rR0, a⟩] := by
  rw [canon_both]
  funext y
  have hy0 : (y 0).val < 2 := (y 0).isLt
  let x : S1x1024.Idx := Fin.cons ⟨0, Nat.one_pos⟩ (Fin.cons ⟨(y 1).val, (y 1).isLt⟩ finZeroElim)
  by_cases h : (y 0).val = 1
  · rw [upd_hit _ _ 1 _ y x h rfl]
    have hx : rR1.emb x = y := Rect.emb_eq_of_coords _ _ _ fun k => by
      fin_cases k
      · show (y 0).val = 1 + 1 * 0
        omega
      · show (y 1).val = 0 + 1 * (y 1).val
        omega
    exact ((congrArg _ hx.symm).trans (View.canon_cons_emb rR1 b _ x)).symm
  · have h0 : (y 0).val = 0 := by omega
    rw [upd_miss _ _ 1 _ y (by omega), upd_hit _ _ 0 _ y x h0 rfl]
    have hx : rR0.emb x = y := Rect.emb_eq_of_coords _ _ _ fun k => by
      fin_cases k
      · show (y 0).val = 0 + 1 * 0
        omega
      · show (y 1).val = 0 + 1 * (y 1).val
        omega
    rw [View.canon_cons_of_not_mem _ _ (Rect.not_mem_set_of_axis _ _ 0 1 1 rfl rfl rfl (.inl (by omega)))]
    exact ((congrArg _ hx.symm).trans (View.canon_cons_emb rR0 a _ x)).symm

set_option maxHeartbeats 2000000 in
/-- A later point: from the carried buffers at any contents, the point stores its three output blocks. -/
theorem sound_later (c : Dev nD) (E : Set ℕ) (i : grid0.Coords) (hi : ¬ (Scalar.cmpi .ne (Scalar.extui (Scalar.cmpi .eq (BitVec.ofNat 32 (i 0).val) 0#32)) 0#32 = 1#1))
    (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S2x1024x256 .bf16) (harg8 : arg8.IsWhole) (arg9 : Memref sig .tc .vmem S2x1024 .f32) (harg9 : arg9.IsWhole) (arg10 : Memref sig .tc .vmem S2x1024x256 .bf16) (harg10 : arg10.IsWhole) (arg11 : Memref sig .tc .vmem S2x1024 .bf16) (harg11 : arg11.IsWhole)
    (X : Ctx F) (x3 x4 : Vec F S1024x256 .f32) (K : PUnit → sProp 𝕄) :
    iprop(owns (c : Thread nD τ) arg1 fullShare X.x1 ∗ owns (c : Thread nD τ) arg2 fullShare X.x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare X.s8 ∗ owns (c : Thread nD τ) arg9 fullShare X.s9 ∗ owns (c : Thread nD τ) arg10 fullShare X.s10 ∗ owns (c : Thread nD τ) arg11 fullShare X.s11
        ∗ (iprop(owns (c : Thread nD τ) arg1 fullShare X.x1 ∗ owns (c : Thread nD τ) arg2 fullShare X.x2 ∗ owns (c : Thread nD τ) arg3 fullShare x3 ∗ owns (c : Thread nD τ) arg4 fullShare x4 ∗ owns (c : Thread nD τ) arg5 fullShare X.out4 ∗ owns (c : Thread nD τ) arg6 fullShare X.out5 ∗ owns (c : Thread nD τ) arg7 fullShare X.out6 ∗ owns (c : Thread nD τ) arg8 fullShare X.s8 ∗ owns (c : Thread nD τ) arg9 fullShare X.s9 ∗ owns (c : Thread nD τ) arg10 fullShare X.s10 ∗ owns (c : Thread nD τ) arg11 fullShare X.s11) -∗ K ⟨⟩))
      ⊢ wp frame (wpE (defs₀ (F := F)) Variants.none c none) E (cc0__hqvae_block i arg1 harg1 arg2 harg2 arg3 harg3 arg4 harg4 arg5 harg5 arg6 harg6 arg7 harg7 arg8 harg8 arg9 harg9 arg10 harg10 arg11 harg11) K := by
  simp only [cc0__hqvae_block_eq_skeleton]; unfold cc0__hqvae_block_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  obtain ⟨x1, x2, s8, s9, s10, s11⟩ := X
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, ⟨%f11, %hf11, H11⟩, Hk⟩
  dsimp only at hf1 hf2 hf8 hf9 hf10 hf11
  subst hf1 hf2 hf3 hf4 hf8 hf9 hf10 hf11
  sl_exec (disch := exact hi)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4 _ _)
  isplitl [H6]
  · iexists _; isplitr
    swap; · iexact H6
    ipureintro
    exact View.read_writes_eq_canon _ _ _ (coverP _)
  isplitl [H7]
  · iexists _; isplitr
    swap; · iexact H7
    ipureintro
    exact View.read_writes_eq_canon _ _ _ (coverP _)
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists f11; isplitr; · ipureintro; rfl
  iexact H11

set_option maxHeartbeats 2000000 in
/-- The first point: from the carried buffers at anything, the point prepares them from the codebooks and stores its
    three output blocks. -/
theorem sound_first (c : Dev nD) (E : Set ℕ) (i : grid0.Coords) (hi : Scalar.cmpi .ne (Scalar.extui (Scalar.cmpi .eq (BitVec.ofNat 32 (i 0).val) 0#32)) 0#32 = 1#1)
    (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S2x1024x256 .bf16) (harg8 : arg8.IsWhole) (arg9 : Memref sig .tc .vmem S2x1024 .f32) (harg9 : arg9.IsWhole) (arg10 : Memref sig .tc .vmem S2x1024x256 .bf16) (harg10 : arg10.IsWhole) (arg11 : Memref sig .tc .vmem S2x1024 .bf16) (harg11 : arg11.IsWhole)
    (x1 x2 x3 x4 : Vec F S1024x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (ctx x1 x2 x3 x4).out4 ∗ owns (c : Thread nD τ) arg6 fullShare (ctx x1 x2 x3 x4).out5 ∗ owns (c : Thread nD τ) arg7 fullShare (ctx x1 x2 x3 x4).out6 ∗ owns (c : Thread nD τ) arg8 fullShare (pre8 x3 x4) ∗ owns (c : Thread nD τ) arg9 fullShare (pre9 x3 x4) ∗ owns (c : Thread nD τ) arg10 fullShare (pre10 x3 x4) ∗ owns (c : Thread nD τ) arg11 fullShare (pre11 x3 x4)) -∗ K ⟨⟩))
      ⊢ wp frame (wpE (defs₀ (F := F)) Variants.none c none) E (cc0__hqvae_block i arg1 harg1 arg2 harg2 arg3 harg3 arg4 harg4 arg5 harg5 arg6 harg6 arg7 harg7 arg8 harg8 arg9 harg9 arg10 harg10 arg11 harg11) K := by
  simp only [cc0__hqvae_block_eq_skeleton]; unfold cc0__hqvae_block_skel
  simp only [k0_part2_eq_skeleton]; unfold k0_part2_skel
  simp only [k0_part1_eq_skeleton]; unfold k0_part1_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf1 hf2 hf3 hf4
  sl_exec (disch := exact hi)
  sl_step
  iapply Hk
  have e8 : sound_first.sl.v8 c arg3 arg4 arg8 f3 f4 = View.ld (pre8 (arg3.view.read (Elt F) f3) (arg4.view.read (Elt F) f4)) rM0 :=
    View.readCov_eq_canon_ld _ _ _ (coverM _ _)
  have e17 : sound_first.sl.v17 c arg3 arg4 arg8 f3 f4 = View.ld (pre8 (arg3.view.read (Elt F) f3) (arg4.view.read (Elt F) f4)) rM1 :=
    View.readCov_eq_canon_ld _ _ _ (coverM _ _)
  have e11 : sound_first.sl.v11 c arg3 arg4 arg9 f3 f4 = View.ld (pre9 (arg3.view.read (Elt F) f3) (arg4.view.read (Elt F) f4)) rR0 :=
    View.readCov_eq_canon_ld _ _ _ (coverR _ _)
  have e20 : sound_first.sl.v20 c arg3 arg4 arg9 f3 f4 = View.ld (pre9 (arg3.view.read (Elt F) f3) (arg4.view.read (Elt F) f4)) rR1 :=
    View.readCov_eq_canon_ld _ _ _ (coverR _ _)
  have e25 : sound_first.sl.v25 c arg3 arg4 arg10 f3 f4 = View.ld (pre10 (arg3.view.read (Elt F) f3) (arg4.view.read (Elt F) f4)) rM0 :=
    View.readCov_eq_canon_ld _ _ _ (coverM _ _)
  have e28 : sound_first.sl.v28 c arg3 arg4 arg10 f3 f4 = View.ld (pre10 (arg3.view.read (Elt F) f3) (arg4.view.read (Elt F) f4)) rM1 :=
    View.readCov_eq_canon_ld _ _ _ (coverM _ _)
  have hold : sound_first.sl.old c arg3 arg11 f3 f11 = Idealize.ShloMosaic.updateSlice (arg11.view.readAt (Elt F) rRR.toLoadRect f11) (k0_pay6 (View.ld (arg3.view.read (Elt F) f3) rL)) ![0, 0] (by decide) :=
    View.readCov_cons_toLoadRect _ _ _ _
  have h11 : View.canon (sound_first.sl.H11_2 c arg3 arg4 arg11 f3 f4 f11) = pre11 (arg3.view.read (Elt F) f3) (arg4.view.read (Elt F) f4) := by
    unfold sound_first.sl.H11_2
    rw [hold]
    exact two_rows (F := F) _ _ _ _ (by decide) (by decide)
  have e34 : sound_first.sl.v34 c arg3 arg4 arg11 f3 f4 f11 = View.ld (pre11 (arg3.view.read (Elt F) f3) (arg4.view.read (Elt F) f4)) rR0 :=
    (View.readCov_eq_canon_ld _ _ _ (coverRR _ _)).trans (congrArg (fun X => View.ld X rR0) h11)
  have e68 : sound_first.sl.v68 c arg3 arg4 arg11 f3 f4 f11 = View.ld (pre11 (arg3.view.read (Elt F) f3) (arg4.view.read (Elt F) f4)) rR1 :=
    (View.readCov_eq_canon_ld _ _ _ (coverRR _ _)).trans (congrArg (fun X => View.ld X rR1) h11)
  have e160 : sound_first.sl.v160 c arg3 arg4 arg11 f3 f4 f11 = View.ld (pre11 (arg3.view.read (Elt F) f3) (arg4.view.read (Elt F) f4)) rR1 :=
    (View.readCov_eq_canon_ld _ _ _ (coverRR _ _)).trans (congrArg (fun X => View.ld X rR1) h11)
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover4 _ _)).trans ?_
    simp only [e8, e17, e11, e20, e25, e28, e34, e68, e160]
    unfold ctx
    generalize pre8 (F := F) _ _ = s8
    generalize pre9 (F := F) _ _ = s9
    generalize pre10 (F := F) _ _ = s10
    generalize pre11 (F := F) _ _ = s11
    rfl
  isplitl [H6]
  · iexists _; isplitr
    swap; · iexact H6
    ipureintro
    refine (View.read_writes_eq_canon _ _ _ (coverP _)).trans ?_
    simp only [e8, e17, e11, e20, e25, e28, e34, e68, e160]
    unfold ctx
    generalize pre8 (F := F) _ _ = s8
    generalize pre9 (F := F) _ _ = s9
    generalize pre10 (F := F) _ _ = s10
    generalize pre11 (F := F) _ _ = s11
    rfl
  isplitl [H7]
  · iexists _; isplitr
    swap; · iexact H7
    ipureintro
    refine (View.read_writes_eq_canon _ _ _ (coverP _)).trans ?_
    simp only [e8, e17, e11, e20, e25, e28, e34, e68, e160]
    unfold ctx
    generalize pre8 (F := F) _ _ = s8
    generalize pre9 (F := F) _ _ = s9
    generalize pre10 (F := F) _ _ = s10
    generalize pre11 (F := F) _ _ = s11
    rfl
  isplitl [H8]
  · iexists _; isplitr
    swap; · iexact H8
    ipureintro
    exact View.read_writes_eq_canon _ _ _ (coverM _ _)
  isplitl [H9]
  · iexists _; isplitr
    swap; · iexact H9
    ipureintro
    exact View.read_writes_eq_canon _ _ _ (coverR _ _)
  isplitl [H10]
  · iexists _; isplitr
    swap; · iexact H10
    ipureintro
    exact View.read_writes_eq_canon _ _ _ (coverM _ _)
  iexists _; isplitr
  swap; · iexact H11
  ipureintro
  exact (View.read_writes_eq_canon _ _ _ (coverRR _ _)).trans h11

/-! ## The proof data -/

variable (m : (ℓ : Loc nD τ sig) → Buf (Elt F) ℓ) (ρ : Dev nD → PrngReg)

/-- The body prepares the carried buffers exactly at the first point. -/
theorem cond_iff : ∀ t : Fin cfg0.N, (Scalar.cmpi .ne (Scalar.extui (Scalar.cmpi .eq (BitVec.ofNat 32 (grid0.coords t 0).val) 0#32)) 0#32 = 1#1) ↔ t.val = 0 := by
  decide

/-- The first codebook, whole, as the region finds it. -/
abbrev cb0 (c : Dev nD) : Vec F S1024x256 .f32 := iblk m c 2 t0_0
/-- The second codebook, whole, as the region finds it. -/
abbrev cb1 (c : Dev nD) : Vec F S1024x256 .f32 := iblk m c 3 t0_0
theorem iblk_2 (c : Dev nD) (t : Fin cfg0.N) : (iblk m c 2 t : Vec F S1024x256 .f32) = cb0 m c := rfl
theorem iblk_3 (c : Dev nD) (t : Fin cfg0.N) : (iblk m c 3 t : Vec F S1024x256 .f32) = cb1 m c := rfl

/-- The contents a point works over. -/
abbrev cx (c : Dev nD) (t : Fin cfg0.N) : Ctx F := ctx (iblk m c 0 t) (iblk m c 1 t) (cb0 m c) (cb1 m c)

/-- The carried buffers after the first point. -/
def carried (c : Dev nD) : sProp 𝕄 :=
  iprop(owns (c : Thread nD τ) (Memref.whole cc0_scratch0) fullShare (pre8 (cb0 m c) (cb1 m c))
    ∗ owns (c : Thread nD τ) (Memref.whole cc0_scratch1) fullShare (pre9 (cb0 m c) (cb1 m c))
    ∗ owns (c : Thread nD τ) (Memref.whole cc0_scratch2) fullShare (pre10 (cb0 m c) (cb1 m c))
    ∗ owns (c : Thread nD τ) (Memref.whole cc0_scratch3) fullShare (pre11 (cb0 m c) (cb1 m c))
    ∗ ∃ r, prngReg c r)

/-- The carried buffers before point `n`: at anything before the first, prepared afterwards. -/
def phi (c : Dev nD) (n : ℕ) : sProp 𝕄 := if n = 0 then Pipeline.ΦA spec0 c else carried m c
theorem phi_zero (c : Dev nD) (n : ℕ) (h : n = 0) : phi m c n = Pipeline.ΦA spec0 c := if_pos h
theorem phi_pos (c : Dev nD) (n : ℕ) (h : ¬ n = 0) : phi m c n = carried m c := if_neg h

/-- The proof data: what each window's buffer holds after a point, and the carried buffers between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (cx m c t).out4
    | ⟨5, _⟩ => (cx m c t).out5
    | ⟨6, _⟩ => (cx m c t).out6
  Φ k := phi m c k.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (cx m c t).out4 := by dsimp only [dats]
theorem after0_5 (c : Dev nD) (t : Fin cfg0.N) : (dats m 0 c).after 5 t = (cx m c t).out5 := by dsimp only [dats]
theorem after0_6 (c : Dev nD) (t : Fin cfg0.N) : (dats m 0 c).after 6 t = (cx m c t).out6 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Before a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- After a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem Φ_zero (c : Dev nD) (t : Fin cfg0.N) (h : t.val = 0) : (dats m 0 c).Φ t.castSucc = Pipeline.ΦA spec0 c := phi_zero m c _ h
theorem Φ_pos (c : Dev nD) (t : Fin cfg0.N) (h : ¬ t.val = 0) : (dats m 0 c).Φ t.castSucc = carried m c := phi_pos m c _ h
theorem Φ_succ (c : Dev nD) (t : Fin cfg0.N) : (dats m 0 c).Φ t.succ = carried m c := phi_pos m c (t.val + 1) (Nat.succ_ne_zero t.val)

set_option maxHeartbeats 2000000 in
/-- One point of the grid, from what the pipeline hands it to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Φ_succ, show (dats m 0 c).owesAt () t.succ = (dats m 0 c).owesAt () t.castSucc from rfl,
    after0_0, after0_1, after0_2, after0_3, after0_4, after0_5, after0_6]
  rw [show (iblk m c 2 t) = cb0 m c from rfl, show (iblk m c 3 t) = cb1 m c from rfl]
  by_cases h : t.val = 0
  · rw [Φ_zero m c t h]
    unfold Pipeline.ΦA carried
    rw [scopedRest0_eq]
    iintro ⟨⟨⟨⟨%g8, H8⟩, ⟨%g9, H9⟩, ⟨%g10, H10⟩, ⟨%g11, H11⟩⟩, Hr⟩, Ho, ⟨%d1, H1⟩, ⟨%d2, H2⟩, ⟨%d3, H3⟩, ⟨%d4, H4⟩, ⟨%d5, H5⟩, ⟨%d6, H6⟩, ⟨%d7, H7⟩⟩
    iapply (sound_first c Set.univ (grid0.coords t) ((cond_iff t).2 h) _ _ _ _ _ _ _ _ _ _ _ _ _ _ _ _ _ _ _ _ _ _ (iblk m c 0 t) (iblk m c 1 t) (cb0 m c) (cb1 m c) _)
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists g8; rw [owns_whole]; iexact H8
    isplitl [H9]; · iexists g9; rw [owns_whole]; iexact H9
    isplitl [H10]; · iexists g10; rw [owns_whole]; iexact H10
    isplitl [H11]; · iexists g11; rw [owns_whole]; iexact H11
    iintro ⟨H1, H2, H3, H4, H5, H6, H7, H8, H9, H10, H11⟩
    isplitl [H8 H9 H10 H11 Hr]
    · isplitl [H8]; · iexact H8
      isplitl [H9]; · iexact H9
      isplitl [H10]; · iexact H10
      isplitl [H11]; · iexact H11
      iexact Hr
    isplitl [Ho]; · iexact Ho
    isplitl [H1]; · iexact H1
    isplitl [H2]; · iexact H2
    isplitl [H3]; · iexact H3
    isplitl [H4]; · iexact H4
    isplitl [H5]; · iexact H5
    isplitl [H6]; · iexact H6
    iexact H7
  · rw [Φ_pos m c t h]
    unfold carried
    iintro ⟨⟨H8, H9, H10, H11, Hr⟩, Ho, ⟨%d1, H1⟩, ⟨%d2, H2⟩, ⟨%d3, H3⟩, ⟨%d4, H4⟩, ⟨%d5, H5⟩, ⟨%d6, H6⟩, ⟨%d7, H7⟩⟩
    iapply (sound_later c Set.univ (grid0.coords t) (fun hc => h ((cond_iff t).1 hc)) _ _ _ _ _ _ _ _ _ _ _ _ _ _ _ _ _ _ _ _ _ _ ⟨iblk m c 0 t, iblk m c 1 t, pre8 (cb0 m c) (cb1 m c), pre9 (cb0 m c) (cb1 m c), pre10 (cb0 m c) (cb1 m c), pre11 (cb0 m c) (cb1 m c)⟩ (cb0 m c) (cb1 m c) _)
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [H10]; · iexact H10
    isplitl [H11]; · iexact H11
    iintro ⟨H1, H2, H3, H4, H5, H6, H7, H8, H9, H10, H11⟩
    isplitl [H8 H9 H10 H11 Hr]
    · isplitl [H8]; · iexact H8
      isplitl [H9]; · iexact H9
      isplitl [H10]; · iexact H10
      isplitl [H11]; · iexact H11
      iexact Hr
    isplitl [Ho]; · iexact Ho
    isplitl [H1]; · iexact H1
    isplitl [H2]; · iexact H2
    isplitl [H3]; · iexact H3
    isplitl [H4]; · iexact H4
    isplitl [H5]; · iexact H5
    isplitl [H6]; · iexact H6
    iexact H7

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: the program terminates with every semaphore at zero, each window's array at what the points left there and
    every other buffer at what the host lines after the region make of it. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl)
    (hin := fun c => by rw [show (dats m 0 c).Φ 0 = Pipeline.ΦA spec0 c from phi_zero m c 0 rfl])
    (hout := fun c => by
      rw [show (dats m 0 c).Φ (Fin.last cfg0.N) = carried m c from phi_pos m c 8 (by decide)]
      unfold carried Pipeline.ΦA
      rw [scopedRest0_eq, owns_whole, owns_whole, owns_whole, owns_whole]
      iintro ⟨H8, H9, H10, H11, Hr⟩
      isplitl [H8 H9 H10 H11]
      · isplitl [H8]; · iexists _; iexact H8
        isplitl [H9]; · iexists _; iexact H9
        isplitl [H10]; · iexists _; iexact H10
        iexists _; iexact H11
      iexact Hr)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Body

end
-- ==== Proof.Frames.lean ====
module

public import proofs.«01_k».proof.Defs
public import proofs.«01_k».proof.Proof.BodyKernel
public import proofs.«01_k».proof.Proof.BodyKernelIdeal
public import proofs.«01_k».proof.Proof.Gen.ReferenceIdeal.Run
public import Idealize.ShloMosaic.Lib.Quiescent
public import Idealize.ShloMosaic.Lib.Pipeline.Quiescent

@[expose] public section

noncomputable section

/-! The frames of the three programs, and the named constants' statements. -/

namespace Cert.Proof

open Idealize.ShloMosaic Idealize.ShloMosaic.TcCoe Idealize.SL.Sem

/-- The kernel terminates, changes no argument and leaves every semaphore at zero. -/
theorem frame_p : Cert.quiescent_Kernel := fun m ρ _ =>
  θ_run_with_sems
    (Cert.Kernel.Gen.frame_of m ρ (Cert.Kernel.Body.dats m) (fun _ _ => rfl))
    (Cert.Kernel.Body.run_main (F := Bits) m ρ)

/-- So does the idealized kernel. -/
theorem frame_pi : Cert.quiescent_KernelIdeal := fun m ρ _ =>
  θ_run_with_sems
    (Cert.KernelIdeal.Gen.frame_of m ρ (Cert.KernelIdeal.Body.dats m) (fun _ _ => rfl))
    (Cert.KernelIdeal.Body.run_main (F := Ideal) m ρ)

/-- So does the reference. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Each named constant has the real value its name states. -/
theorem preserves : Cert.preserves_Kernel_KernelIdeal :=
  ⟨IdealRules.named_const.statement Cert.KernelIdeal.κ "two_log2e" .f32 0x4038AA3B#32 ((2 * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "bn_log_k" .f32 0x45DDCE9E#32 ((1024 * (Real.log 1024) : ℝ) : EReal) rfl⟩

end Cert.Proof

end
-- ==== Proof.Spec.lean ====
module

public import Idealize.ShloMosaic.Lib.Pointwise
public import Idealize.ShloMosaic.PureOps.Ideal.Laws

/-!
The quantiser over the real numbers, one row of a latent at a time: the weights a row gives to the codewords, the
quantised row, what is left of the row, and the divergence of the weights from the uniform distribution. The two programs
are each shown to compute these functions; the identities between the two ways of writing them are here.
-/

@[expose] public section

noncomputable section

namespace Cert.Spec

/-- A codebook of 1024 codewords with 256 coordinates each. -/
abbrev Book := Fin 1024 → Fin 256 → ℝ
/-- One row of a latent. -/
abbrev Row := Fin 256 → ℝ

/-- The inner product of a row with codeword `k`. -/
def dot (r : Row) (c : Book) (k : Fin 1024) : ℝ := ∑ d, r d * c k d
/-- The squared length of a row. -/
def nrm (v : Row) : ℝ := ∑ d, v d * v d
/-- The logit of codeword `k`, up to the squared length of the row. -/
def lg (r : Row) (c : Book) (k : Fin 1024) : ℝ := 2 * dot r c k - nrm (c k)
/-- The weight of codeword `k` before normalisation. -/
def wt (r : Row) (c : Book) (k : Fin 1024) : ℝ := Real.exp (lg r c k)
/-- The sum of the weights. -/
def tot (r : Row) (c : Book) : ℝ := ∑ k, wt r c k
/-- The sum of the codewords under the weights, before normalisation. -/
def wsum (r : Row) (c : Book) (d : Fin 256) : ℝ := ∑ k, wt r c k * c k d
/-- The quantised row. -/
def quant (r : Row) (c : Book) (d : Fin 256) : ℝ := wsum r c d * (1 / tot r c)
/-- The row less its quantisation. -/
def next (r : Row) (c : Book) : Row := fun d => r d - quant r c d
/-- The squared lengths of the codewords under the weights, before normalisation. -/
def wnrm (r : Row) (c : Book) : ℝ := ∑ k, wt r c k * nrm (c k)
/-- The log-probability of codeword `k`. -/
def lp (r : Row) (c : Book) (k : Fin 1024) : ℝ := lg r c k - Real.log (tot r c)
/-- The divergence of a row's probabilities from the uniform distribution over the codewords. -/
def kl (r : Row) (c : Book) : ℝ := ∑ k, Real.exp (lp r c k) * (lp r c k + Real.log 1024)
/-- What two levels leave of a row. -/
def rest (r : Row) (c : Book) : Row := next (next r c) c
/-- The two levels' quantisations together. -/
def both (r : Row) (c : Book) (d : Fin 256) : ℝ := quant r c d + quant (next r c) c d

/-- A row of the result: the two quantised rows side by side. -/
def cat (q0 q1 : Row) (d : Fin 512) : ℝ := if h : d.val < 256 then q0 ⟨d.val, h⟩ else q1 ⟨d.val - 256, by omega⟩

theorem wt_pos (r : Row) (c : Book) (k : Fin 1024) : 0 < wt r c k := Real.exp_pos _

theorem tot_pos (r : Row) (c : Book) : 0 < tot r c :=
  Finset.sum_pos (fun k _ => wt_pos r c k) Finset.univ_nonempty

theorem tot_ne (r : Row) (c : Book) : tot r c ≠ 0 := (tot_pos r c).ne'

/-- A probability is the weight over the sum of the weights. -/
theorem exp_lp (r : Row) (c : Book) (k : Fin 1024) : Real.exp (lp r c k) = wt r c k * (1 / tot r c) := by
  rw [lp, Real.exp_sub, Real.exp_log (tot_pos r c), wt, div_eq_mul_one_div]

/-- The quantised row is the mean of the codewords under the probabilities. -/
theorem sum_prob (r : Row) (c : Book) (d : Fin 256) : ∑ k, Real.exp (lp r c k) * c k d = quant r c d := by
  rw [quant, wsum, Finset.sum_mul]
  exact Finset.sum_congr rfl fun k _ => by rw [exp_lp]; ring

/-- What is left after two levels is the row less both quantisations. -/
theorem rest_eq (r : Row) (c : Book) (d : Fin 256) : rest r c d = r d - both r c d := by
  rw [rest, next, next, both]; ring

/-- The row less what is left is both quantisations. -/
theorem sub_rest (r : Row) (c : Book) (d : Fin 256) : r d - rest r c d = both r c d := by
  rw [rest_eq]; ring

theorem sum_prob_one (r : Row) (c : Book) : ∑ k, wt r c k * (1 / tot r c) = 1 := by
  rw [← Finset.sum_mul, ← tot, mul_one_div, div_self (tot_ne r c)]

/-- The weighted sum of the inner products is the inner product with the weighted sum. -/
theorem sum_wt_dot (r : Row) (c : Book) : ∑ k, wt r c k * dot r c k = ∑ d, r d * wsum r c d := by
  simp only [dot, wsum, Finset.mul_sum]
  rw [Finset.sum_comm]
  exact Finset.sum_congr rfl fun d _ => Finset.sum_congr rfl fun k _ => by ring

/-- The divergence without a sum over the log-probabilities: twice the inner product of the row with its quantisation,
    less the mean squared length, less the logarithm of the sum of the weights, plus the logarithm of 1024. -/
theorem kl_eq (r : Row) (c : Book) :
    kl r c = 2 * (∑ d, r d * quant r c d) - wnrm r c * (1 / tot r c) - Real.log (tot r c) + Real.log 1024 := by
  have h1 : ∑ d, r d * quant r c d = (∑ k, wt r c k * dot r c k) * (1 / tot r c) := by
    rw [sum_wt_dot, Finset.sum_mul]
    exact Finset.sum_congr rfl fun d _ => by rw [quant]; ring
  have h2 : kl r c = ∑ k, (2 * (wt r c k * dot r c k) * (1 / tot r c) - wt r c k * nrm (c k) * (1 / tot r c)
      + wt r c k * (1 / tot r c) * (Real.log 1024 - Real.log (tot r c))) :=
    Finset.sum_congr rfl fun k _ => by rw [exp_lp, lp, lg]; ring
  rw [h2, Finset.sum_add_distrib, Finset.sum_sub_distrib, ← Finset.sum_mul, ← Finset.sum_mul, ← Finset.sum_mul,
    ← Finset.mul_sum, sum_prob_one, h1, wnrm]
  ring

/-- The divergences of 1024 rows together, as sums over the rows. -/
theorem kl_block (R : Fin 1024 → Row) (c : Book) :
    2 * (∑ i, ∑ d, R i d * quant (R i) c d) - (∑ i, wnrm (R i) c * (1 / tot (R i) c)) - (∑ i, Real.log (tot (R i) c))
      + 1024 * Real.log 1024 = ∑ i, kl (R i) c := by
  have h : ∑ i, kl (R i) c = ∑ i, (2 * (∑ d, R i d * quant (R i) c d) - wnrm (R i) c * (1 / tot (R i) c)
      - Real.log (tot (R i) c) + Real.log 1024) := Finset.sum_congr rfl fun i _ => kl_eq _ _
  rw [h, Finset.sum_add_distrib, Finset.sum_sub_distrib, Finset.sum_sub_distrib, ← Finset.mul_sum]
  simp

/-- A power of two with the exponent scaled by the base-two logarithm of e is the exponential. -/
theorem wt_pow (r : Row) (c : Book) (k : Fin 1024) :
    Real.rpow 2 ((∑ d, r d * (c k d * (2 * (Real.log 2)⁻¹))) - ∑ d, (Real.log 2)⁻¹ * (c k d * c k d)) = wt r c k := by
  have h : (∑ d, r d * (c k d * (2 * (Real.log 2)⁻¹))) - ∑ d, (Real.log 2)⁻¹ * (c k d * c k d)
      = (Real.log 2)⁻¹ * lg r c k := by
    rw [lg, dot, nrm, mul_sub, Finset.mul_sum, Finset.mul_sum, Finset.mul_sum]
    refine congrArg₂ (· - ·) (Finset.sum_congr rfl fun d _ => ?_) rfl
    ring
  have h2 : (Real.log 2) ≠ 0 := (Real.log_pos one_lt_two).ne'
  rw [h, wt]
  change (2 : ℝ) ^ ((Real.log 2)⁻¹ * lg r c k : ℝ) = _
  rw [Real.rpow_def_of_pos two_pos, ← mul_assoc, mul_inv_cancel₀ h2, one_mul]

/-- The distance-based logit: minus the squared distance to codeword `k`. -/
def nd (r : Row) (c : Book) (k : Fin 1024) : ℝ := -(nrm r - 2 * dot r c k + nrm (c k))

/-- A shift of the logits leaves the log-probabilities as they are. -/
theorem lp_shift (r : Row) (c : Book) (M : ℝ) (k : Fin 1024) :
    nd r c k - M - Real.log (∑ j, Real.exp (nd r c j - M)) = lp r c k := by
  have h : ∀ j, nd r c j - M = lg r c j + (-nrm r - M) := fun j => by rw [nd, lg]; ring
  have hs : ∑ j, Real.exp (nd r c j - M) = tot r c * Real.exp (-nrm r - M) := by
    rw [tot, Finset.sum_mul]
    exact Finset.sum_congr rfl fun j _ => by rw [h, Real.exp_add, wt]
  rw [hs, Real.log_mul (tot_ne r c) (Real.exp_pos _).ne', Real.log_exp, h, lp]
  ring

/-- A finite sum of real numbers, taken in the extended reals, is the real sum. -/
theorem coe_sum {ι : Type} [Fintype ι] (f : ι → ℝ) : (∑ i, ((f i : ℝ) : EReal)) = ((∑ i, f i : ℝ) : EReal) := by
  classical
  refine Finset.induction_on (Finset.univ : Finset ι) (by simp) fun a s ha ih => ?_
  rw [Finset.sum_insert ha, Finset.sum_insert ha, ih, EReal.coe_add]

/-- The largest of finitely many real numbers, started from minus infinity, is a real number. -/
theorem fold_max (f : Fin 1024 → ℝ) :
    ∃ M : ℝ, Finset.fold max (⊥ : EReal) (fun k => ((f k : ℝ) : EReal)) Finset.univ = ((M : ℝ) : EReal) := by
  obtain ⟨k, -, h⟩ := Finset.exists_mem_eq_sup (Finset.univ : Finset (Fin 1024)) Finset.univ_nonempty
    (fun k => ((f k : ℝ) : EReal))
  exact ⟨f k, h⟩

/-- A vector of real numbers as an array of extended reals. -/
def m1 {a : Nat} (f : Fin a → ℝ) : (⟨1, ![a]⟩ : Idealize.ShloMosaic.Shape).Idx → EReal :=
  fun j => ((f (j 0) : ℝ) : EReal)
/-- A matrix of real numbers as an array of extended reals. -/
def m2 {a b : Nat} (f : Fin a → Fin b → ℝ) : (⟨2, ![a, b]⟩ : Idealize.ShloMosaic.Shape).Idx → EReal :=
  fun j => ((f (j 0) (j 1) : ℝ) : EReal)
/-- A box of real numbers as an array of extended reals. -/
def m3 {a b c : Nat} (f : Fin a → Fin b → Fin c → ℝ) : (⟨3, ![a, b, c]⟩ : Idealize.ShloMosaic.Shape).Idx → EReal :=
  fun j => ((f (j 0) (j 1) (j 2) : ℝ) : EReal)

open Idealize.ShloMosaic in
theorem m1_ix {a : Nat} (f : Fin a → ℝ) (i : Fin a) : m1 f (ix1 i) = ((f i : ℝ) : EReal) := rfl
open Idealize.ShloMosaic in
theorem m2_ix {a b : Nat} (f : Fin a → Fin b → ℝ) (i : Fin a) (j : Fin b) : m2 f (ix2 i j) = ((f i j : ℝ) : EReal) := rfl
open Idealize.ShloMosaic in
theorem m3_ix {a b c : Nat} (f : Fin a → Fin b → Fin c → ℝ) (i : Fin a) (j : Fin b) (k : Fin c) :
    m3 f (ix3 i j k) = ((f i j k : ℝ) : EReal) := rfl

end Cert.Spec
-- ==== Proof.Consts.lean ====
module

public import Idealize.ShloMosaic.Lib.Pointwise
public import Idealize.ShloMosaic.PureOps.Ideal.Laws

/-!
The literals of the two programs as real numbers.
-/

@[expose] public section

noncomputable section

namespace Cert.Consts

open Idealize.ShloMosaic

theorem two : Ideal.ofBits .f32 0x40000000#32 = ((2 : ℝ) : EReal) := by
  simp [Ideal.ofBits, Ideal.ieee, -EReal.coe_mul]; norm_num
theorem rows : Ideal.ofBits .f32 0x46000000#32 = ((8192 : ℝ) : EReal) := by
  simp [Ideal.ofBits, Ideal.ieee, -EReal.coe_mul]; norm_num
theorem elems : Ideal.ofBits .f32 0x4A000000#32 = ((2097152 : ℝ) : EReal) := by
  simp [Ideal.ofBits, Ideal.ieee, -EReal.coe_mul]; norm_num
theorem words : Ideal.ofBits .f32 0x44800000#32 = ((1024 : ℝ) : EReal) := by
  simp [Ideal.ofBits, Ideal.ieee, -EReal.coe_mul]; norm_num
theorem bot : Ideal.ofBits .f32 0xFF800000#32 = (⊥ : EReal) := by
  simp [Ideal.ofBits, Ideal.ieee]
/-- The weight of the divergences in the loss. -/
def kw : ℝ := 8589935 / 8589934592
theorem weight : Ideal.ofBits .f32 0x3A83126F#32 = ((kw : ℝ) : EReal) := by
  simp [Ideal.ofBits, Ideal.ieee, -EReal.coe_mul, kw]; norm_num

end Cert.Consts
-- ==== Proof.Finite.lean ====
module

public import proofs.«01_k».proof.Pre_finite
public import proofs.«01_k».proof.Proof.Spec
public import proofs.«01_k».proof.Proof.Consts

/-!
The precondition: an array all of whose elements are below infinity in absolute value is an array of real numbers.
-/

@[expose] public section

noncomputable section

namespace Cert.Finite

open Idealize.ShloMosaic Idealize.ShloMosaic.StableHlo
open Cert.Spec Cert.Pre_finite

/-- The shape relations that the precondition's operations take. -/
instance facts : Cert.Pre_finite.Facts := ⟨by decide, by decide⟩

/-- The word of positive infinity reads as infinity. -/
theorem inf_word : Ideal.ofBits .f32 0x7F800000#32 = ⊤ := by
  simp [Ideal.ofBits, Ideal.ieee]

/-- An element whose absolute value compares below infinity is a real number. -/
theorem real_of_lt (a : EReal)
    (h : BitVec.ofBool (decide (FloatOps.absf (F := Ideal) (φ := .f32) a < Ideal.ofBits .f32 0x7F800000#32)) = 1#1) :
    a = ((a.toReal : ℝ) : EReal) := by
  have h1 : max a (-a) < (⊤ : EReal) := by
    rw [inf_word] at h
    by_contra hn
    have hd : decide (FloatOps.absf (F := Ideal) (φ := .f32) a < (⊤ : EReal)) = false := decide_eq_false hn
    rw [hd] at h
    exact absurd h (by decide)
  have ht : a ≠ ⊤ := fun e => by simp [e] at h1
  have hb : a ≠ ⊥ := fun e => by simp [e] at h1
  exact (EReal.coe_toReal ht hb).symm

/-- A three-dimensional array that compares below infinity in absolute value everywhere is an array of reals. -/
theorem real3 (x : FVec Ideal S8x1024x256 .f32)
    (h : cmpf .olt (Host.absf x) (broadcastInDim S8x1024x256 ![] Facts.bcast_S_S8x1024x256 (constant (F := Ideal) S_ .f32 0x7F800000#32)) = fun _ => 1#1) :
    ∃ Z, x = m3 Z := by
  refine ⟨fun b n d => (x (ix3 b n d)).toReal, ?_⟩
  funext j
  have hj := congrFun h j
  idx_vars j
  pointwise at hj
  exact real_of_lt _ hj

/-- A codebook that compares below infinity in absolute value everywhere is an array of reals. -/
theorem real2 (x : FVec Ideal S1024x256 .f32)
    (h : cmpf .olt (Host.absf x) (broadcastInDim S1024x256 ![] Facts.bcast_S_S1024x256 (constant (F := Ideal) S_ .f32 0x7F800000#32)) = fun _ => 1#1) :
    ∃ C, x = m2 C := by
  refine ⟨fun k d => (x (ix2 k d)).toReal, ?_⟩
  funext j
  have hj := congrFun h j
  idx_vars j
  pointwise at hj
  exact real_of_lt _ hj

/-- Arguments that satisfy the precondition are arrays of reals. -/
theorem real_of_fn (x0 x1 : FVec Ideal S8x1024x256 .f32) (x2 x3 : FVec Ideal S1024x256 .f32)
    (h : (fn (F := Ideal) x0 x1 x2 x3).1 = (fun _ => 1#1) ∧ (fn (F := Ideal) x0 x1 x2 x3).2.1 = (fun _ => 1#1)
      ∧ (fn (F := Ideal) x0 x1 x2 x3).2.2.1 = (fun _ => 1#1) ∧ (fn (F := Ideal) x0 x1 x2 x3).2.2.2 = (fun _ => 1#1)) :
    ∃ Z0 Z1 C0 C1, x0 = m3 Z0 ∧ x1 = m3 Z1 ∧ x2 = m2 C0 ∧ x3 = m2 C1 := by
  obtain ⟨Z0, e0⟩ := real3 x0 h.1
  obtain ⟨Z1, e1⟩ := real3 x1 h.2.1
  obtain ⟨C0, e2⟩ := real2 x2 h.2.2.1
  obtain ⟨C1, e3⟩ := real2 x3 h.2.2.2
  exact ⟨Z0, Z1, C0, C1, e0, e1, e2, e3⟩

end Cert.Finite
-- ==== Proof.KerStage.lean ====
module

public import proofs.«01_k».proof.Proof.Gen.KernelIdeal.Skeleton
public import proofs.«01_k».proof.Proof.Spec
public import proofs.«01_k».proof.Proof.Consts

/-!
What each of the kernel's stages computes when its operands are arrays of real numbers.
-/

@[expose] public section

set_option maxRecDepth 16384

noncomputable section

namespace Cert.KernelIdeal.Stage

open Cert.KernelIdeal Cert.KernelIdeal.Gen Idealize.ShloMosaic Idealize.ShloMosaic.TcCoe Idealize.SL.Sem
open Cert.Spec

variable (R : Fin 1024 → Row) (c : Book)

theorem two_log2e : Named.named (F := Ideal) Cert.KernelIdeal.κ "two_log2e" (φ := .f32) 0x4038AA3B#32
    = ((2 * (Real.log 2)⁻¹ : ℝ) : EReal) := IdealRules.named_const.ideal_named_scalar _ _ _ _ rfl
theorem log2e : Named.named (F := Ideal) Cert.KernelIdeal.κ "log2e" (φ := .f32) 0x3FB8AA3B#32
    = (((Real.log 2)⁻¹ : ℝ) : EReal) := IdealRules.named_const.ideal_named_scalar _ _ _ _ rfl
theorem bn_log_k : Named.named (F := Ideal) Cert.KernelIdeal.κ "bn_log_k" (φ := .f32) 0x45DDCE9E#32
    = ((1024 * Real.log 1024 : ℝ) : EReal) := IdealRules.named_const.ideal_named_scalar _ _ _ _ rfl

/-- The scaled codebook that the first point keeps. -/
def cs (c : Book) : Fin 1 → Fin 1024 → Fin 256 → ℝ := fun _ k d => c k d * (2 * (Real.log 2)⁻¹)
/-- The scaled squared lengths that the first point keeps. -/
def ns (c : Book) : Fin 1 → Fin 1024 → ℝ := fun _ k => ∑ d, (Real.log 2)⁻¹ * (c k d * c k d)

/-- The squared lengths of the codewords, as a row. -/
def qs (c : Book) : Fin 1 → Fin 1024 → ℝ := fun _ k => nrm (c k)
/-- A codebook as a box of one member. -/
def bx (c : Book) : Fin 1 → Fin 1024 → Fin 256 → ℝ := fun _ k d => c k d

theorem div_one (s : ℝ) (h : s ≠ 0) : Ideal.div 1 ((s : ℝ) : EReal) = ((1 / s : ℝ) : EReal) := by
  rw [Ideal.div_coe h, one_mul]
theorem log_pos (s : ℝ) (h : 0 < s) : Ideal.log ((s : ℝ) : EReal) = ((Real.log s : ℝ) : EReal) := by
  rw [Ideal.log_coe, if_neg (not_le.mpr h)]
theorem exp2_real (x : ℝ) : FloatOps.exp2 (F := Ideal) (φ := .f32) ((x : ℝ) : EReal) = ((Real.rpow 2 x : ℝ) : EReal) := rfl

theorem div_tot (r : Row) (c : Book) : Ideal.div 1 ((tot r c : ℝ) : EReal) = ((1 / tot r c : ℝ) : EReal) :=
  div_one _ (tot_ne r c)
theorem log_tot (r : Row) (c : Book) : Ideal.log ((tot r c : ℝ) : EReal) = ((Real.log (tot r c) : ℝ) : EReal) :=
  log_pos _ (tot_pos r c)

/-! The four arrays that the first point keeps. -/

theorem pay3 : k0_pay3 (F := Ideal) (m2 c) = m3 (cs c) := by
  funext j; idx_vars j
  pointwise [k0_pay3, m2_ix, m3_ix, two_log2e, cs]
  exact (EReal.coe_mul _ _).symm
theorem pay8 : k0_pay8 (F := Ideal) (m2 c) = m3 (cs c) := pay3 c
theorem pay4 : k0_pay4 (F := Ideal) (m2 c) = m2 (ns c) := by
  funext j; idx_vars j
  pointwise [k0_pay4, k0_pay2, m2_ix, m3_ix, log2e, ns]
  simp only [← EReal.coe_mul, coe_sum]
theorem pay9 : k0_pay9 (F := Ideal) (k0_pay7 (m2 c)) (Named.named (F := Ideal) Cert.KernelIdeal.κ "log2e" (φ := .f32) 0x3FB8AA3B#32)
    = m2 (ns c) := pay4 c
theorem pay5 : k0_pay5 (F := Ideal) (m2 c) = m3 (bx c) := by
  funext j; idx_vars j
  pointwise [k0_pay5, m2_ix, m3_ix, bx]
theorem pay10 : k0_pay10 (F := Ideal) (m2 c) = m3 (bx c) := pay5 c
theorem pay6 : k0_pay6 (F := Ideal) (m2 c) = m2 (qs c) := by
  funext j; idx_vars j
  pointwise [k0_pay6, k0_pay2, m2_ix, m3_ix, qs, nrm]
  simp only [← EReal.coe_mul, coe_sum]
theorem pay11 : k0_pay11 (F := Ideal) (k0_pay7 (m2 c)) = m2 (qs c) := pay6 c

/-! The two latent blocks as they are loaded. -/

theorem pay12 : k0_pay12 (F := Ideal) (m2 R) = m2 R := by
  funext j; idx_vars j
  pointwise [k0_pay12, m2_ix]
theorem pay13 : k0_pay13 (F := Ideal) (m2 R) = m2 R := pay12 R

/-! The weights. -/

theorem pay30 : k0_pay30 (F := Ideal) (m2 R) (m3 (cs c)) (m2 (ns c)) = m2 fun i k => wt (R i) c k := by
  funext j; idx_vars j
  pointwise [k0_pay30, m2_ix, m3_ix, cs, ns]
  simp only [← EReal.coe_mul, coe_sum, ← EReal.coe_sub, exp2_real, wt_pow]
theorem pay14 : k0_pay14 (F := Ideal) (m2 R) (m3 (cs c)) (m2 (ns c)) = m2 fun i k => wt (R i) c k := by
  funext j; idx_vars j
  pointwise [k0_pay14, k0_pay12, m2_ix, m3_ix, cs, ns]
  simp only [← EReal.coe_mul, coe_sum, ← EReal.coe_sub, exp2_real, wt_pow]
theorem pay15 : k0_pay15 (F := Ideal) (m2 R) (m3 (cs c)) (m2 (ns c)) = m2 fun i k => wt (R i) c k := pay14 R c
theorem pay18 : k0_pay18 (F := Ideal) (m2 R) (m3 (cs c)) (m2 (ns c)) = m2 fun i k => wt (R i) c k := by
  rw [k0_pay18, pay14]; rfl

/-! The weighted sums of the codewords. -/

theorem pay32 : k0_pay32 (F := Ideal) (m2 fun i k => wt (R i) c k) (m3 (bx c)) = m2 fun i d => wsum (R i) c d := by
  funext j; idx_vars j
  pointwise [k0_pay32, m2_ix, m3_ix, bx, wsum]
  simp only [← EReal.coe_mul, coe_sum]
theorem pay16 : k0_pay16 (F := Ideal) (m2 R) (m3 (cs c)) (m2 (ns c)) (m3 (bx c)) = m2 fun i d => wsum (R i) c d := by
  rw [k0_pay16, pay14]; exact pay32 R c
theorem pay17 : k0_pay17 (F := Ideal) (m2 R) (m3 (cs c)) (m2 (ns c)) (m3 (bx c)) = m2 fun i d => wsum (R i) c d :=
  pay16 R c

/-! The sums of the weights, their reciprocals, and the weighted squared lengths. -/

theorem pay38 : k0_pay38 (F := Ideal) (m2 fun i k => wt (R i) c k) = m1 fun i => tot (R i) c := by
  funext j; idx_vars j
  pointwise [k0_pay38, m2_ix, m1_ix, tot]
  simp only [coe_sum]
theorem pay24 : k0_pay24 (F := Ideal) (m2 fun i k => wt (R i) c k) = m2 fun i (_ : Fin 1) => tot (R i) c := by
  funext j; idx_vars j
  pointwise [k0_pay24, m2_ix, m1_ix, tot]
  simp only [coe_sum]
theorem pay26 : k0_pay26 (F := Ideal) (m2 fun i k => wt (R i) c k) = m2 fun i (_ : Fin 1) => 1 / tot (R i) c := by
  rw [k0_pay26, pay24]
  funext j; idx_vars j
  pointwise [m2_ix, div_tot]
theorem pay25 : k0_pay25 (F := Ideal) (m2 fun i k => wt (R i) c k) (m2 (qs c)) = m2 fun i (_ : Fin 1) => wnrm (R i) c := by
  funext j; idx_vars j
  pointwise [k0_pay25, m2_ix, qs, wnrm]
  simp only [← EReal.coe_mul, coe_sum]

/-! The quantised blocks and what is left of the blocks. -/

theorem pay21 : k0_pay21 (F := Ideal) (m2 fun i d => wsum (R i) c d) (m2 fun i k => wt (R i) c k)
    = m2 fun i d => quant (R i) c d := by
  funext j; idx_vars j
  pointwise [k0_pay21, k0_pay20, k0_pay19, m2_ix, coe_sum, ← tot.eq_1, div_tot, quant]
  rw [EReal.coe_mul]
theorem pay23 : k0_pay23 (F := Ideal) (m2 R) (m2 fun i d => wsum (R i) c d) (m2 fun i k => wt (R i) c k)
    = m2 fun i => next (R i) c := by
  rw [k0_pay23, pay21]
  funext j; idx_vars j
  pointwise [m2_ix, next]
  rw [EReal.coe_sub]
theorem pay27 : k0_pay27 (F := Ideal) (m2 fun i d => wsum (R i) c d) (m2 fun i (_ : Fin 1) => 1 / tot (R i) c)
    = m2 fun i d => quant (R i) c d := by
  funext j; idx_vars j
  pointwise [k0_pay27, m2_ix, quant]
  rw [EReal.coe_mul]
theorem pay29 : k0_pay29 (F := Ideal) (m2 R) (m2 fun i d => wsum (R i) c d) (m2 fun i (_ : Fin 1) => 1 / tot (R i) c)
    = m2 fun i => next (R i) c := by
  rw [k0_pay29, pay27]
  funext j; idx_vars j
  pointwise [m2_ix, next]
  rw [EReal.coe_sub]
theorem pay31 : k0_pay31 (F := Ideal) (m2 R) (m2 fun i d => wsum (R i) c d) (m2 fun i (_ : Fin 1) => 1 / tot (R i) c)
    (m3 (cs c)) (m2 (ns c)) = m2 fun i k => wt (next (R i) c) c k := by
  rw [k0_pay31, pay29]; exact pay30 (fun i => next (R i) c) c
theorem pay35 : k0_pay35 (F := Ideal) (m2 fun i k => wt (R i) c k) (m3 (bx c)) = m2 fun i d => quant (R i) c d := by
  funext j; idx_vars j
  pointwise [k0_pay35, k0_pay34, k0_pay33, m2_ix, m3_ix, bx, coe_sum, ← tot.eq_1, div_tot, quant, wsum]
  simp only [← EReal.coe_mul, coe_sum]
theorem pay37 : k0_pay37 (F := Ideal) (m2 R) (m2 fun i k => wt (R i) c k) (m3 (bx c)) = m2 fun i => next (R i) c := by
  rw [k0_pay37, pay35]
  funext j; idx_vars j
  pointwise [m2_ix, next]
  rw [EReal.coe_sub]
theorem pay41 : k0_pay41 (F := Ideal) (m2 fun i d => wsum (R i) c d) (m1 fun i => tot (R i) c)
    = m2 fun i d => quant (R i) c d := by
  funext j; idx_vars j
  pointwise [k0_pay41, k0_pay40, k0_pay39, m1_ix, m2_ix, div_tot, quant]
  rw [EReal.coe_mul]
theorem pay42 : k0_pay42 (F := Ideal) (m2 R) (m2 fun i d => wsum (R i) c d) (m1 fun i => tot (R i) c)
    = m2 fun i => next (R i) c := by
  rw [k0_pay42, pay41]
  funext j; idx_vars j
  pointwise [m2_ix, next]
  rw [EReal.coe_sub]

/-! The results of a block. -/

theorem pay43 : k0_pay43 (F := Ideal) (m2 R) (m2 fun i => rest (R i) c) = m2 fun i d => both (R i) c d := by
  funext j; idx_vars j
  pointwise [k0_pay43, m2_ix]
  rw [← EReal.coe_sub, sub_rest]
theorem pay44 : k0_pay44 (F := Ideal) (m2 R) (m2 fun i => next (R i) c) (m2 fun i d => wsum (next (R i) c) c d)
    (m1 fun i => tot (next (R i) c) c) = m2 fun i d => both (R i) c d := by
  rw [k0_pay44, pay42 (fun i => next (R i) c) c]
  exact pay43 R c

/-- The divergences of a block's rows together. -/
def klb (R : Fin 1024 → Row) (c : Book) : ℝ := ∑ i, kl (R i) c

/-! The block sums at any operands, then at arrays of real numbers. -/

theorem pay22_at (v4 v27 : FVec Ideal S1024x256 .f32) (v15 : FVec Ideal S1024x1024 .bf16) (v31 : FVec Ideal S1024x1024 .f32)
    (v34 : Vec Ideal S1x1024 .bf16) : k0_pay22 (F := Ideal) v4 v15 v27 v31 v34
    = (Ideal.ofBits .f32 0x40000000#32 * ∑ i : Fin 1024, ∑ d : Fin 256, v4 (ix2 i d) * (v27 (ix2 i d) * Ideal.div 1 (∑ k : Fin 1024, v31 (ix2 i k))))
      - (∑ i : Fin 1024, ∑ _u : Fin 1, (∑ k : Fin 1024, v15 (ix2 i k) * v34 (ix2 0 k)) * Ideal.div 1 (∑ k : Fin 1024, v31 (ix2 i k)))
      - (∑ i : Fin 1024, ∑ _u : Fin 1, Ideal.log (∑ k : Fin 1024, v31 (ix2 i k)))
      + Named.named (F := Ideal) Cert.KernelIdeal.κ "bn_log_k" (φ := .f32) 0x45DDCE9E#32 := by
  pointwise [k0_pay22, k0_pay21, k0_pay20, k0_pay19]
theorem pay28_at (v6 v30 : FVec Ideal S1024x256 .f32) (v67 v73 v75 : FVec Ideal S1024x1 .f32) :
    k0_pay28 (F := Ideal) v6 v30 v67 v73 v75
    = (Ideal.ofBits .f32 0x40000000#32 * ∑ i : Fin 1024, ∑ d : Fin 256, v6 (ix2 i d) * (v30 (ix2 i d) * v75 (ix2 i 0)))
      - (∑ i : Fin 1024, ∑ _u : Fin 1, v73 (ix2 i 0) * v75 (ix2 i 0))
      - (∑ i : Fin 1024, ∑ _u : Fin 1, Ideal.log (v67 (ix2 i 0)))
      + Named.named (F := Ideal) Cert.KernelIdeal.κ "bn_log_k" (φ := .f32) 0x45DDCE9E#32 := by
  pointwise [k0_pay28, k0_pay27]
theorem pay36_at (a : Ideal .f32) (v64 : FVec Ideal S1024x256 .f32) (v107 : FVec Ideal S1024x1024 .bf16)
    (v117 : Vec Ideal S1x1024x256 .bf16) (v126 : Vec Ideal S1x1024 .bf16) : k0_pay36 (F := Ideal) a v64 v107 v117 v126
    = a + (Ideal.ofBits .f32 0x40000000#32 * ∑ i : Fin 1024, ∑ d : Fin 256, v64 (ix2 i d)
        * ((∑ k : Fin 1024, v107 (ix2 i k) * v117 (ix3 0 k d)) * Ideal.div 1 (∑ k : Fin 1024, v107 (ix2 i k))))
      - (∑ i : Fin 1024, ∑ _u : Fin 1, (∑ k : Fin 1024, v107 (ix2 i k) * v126 (ix2 0 k)) * Ideal.div 1 (∑ k : Fin 1024, v107 (ix2 i k)))
      - (∑ i : Fin 1024, ∑ _u : Fin 1, Ideal.log (∑ k : Fin 1024, v107 (ix2 i k)))
      + Named.named (F := Ideal) Cert.KernelIdeal.κ "bn_log_k" (φ := .f32) 0x45DDCE9E#32 := by
  pointwise [k0_pay36, k0_pay35, k0_pay34, k0_pay33]
theorem pay45_at (a b : Ideal .f32) (v98 v122 : FVec Ideal S1024x256 .f32) (v116 : FVec Ideal S1024x1024 .bf16)
    (v158 : FVec Ideal S1024 .f32) (v160 : Vec Ideal S1x1024 .bf16) (j : S1x1x1.Idx) :
    k0_pay45 (F := Ideal) a v98 v116 v122 b v158 v160 j
    = b + (a + (Ideal.ofBits .f32 0x40000000#32 * ∑ i : Fin 1024, ∑ d : Fin 256, v98 (ix2 i d) * (v122 (ix2 i d) * Ideal.div 1 (v158 (ix1 i))))
      - (∑ i : Fin 1024, ∑ _u : Fin 1, (∑ k : Fin 1024, v116 (ix2 i k) * v160 (ix2 0 k)) * Ideal.div 1 (v158 (ix1 i)))
      - (∑ i : Fin 1024, ∑ _u : Fin 1, Ideal.log (v158 (ix1 i)))
      + Named.named (F := Ideal) Cert.KernelIdeal.κ "bn_log_k" (φ := .f32) 0x45DDCE9E#32) := by
  pointwise [k0_pay45, k0_pay41, k0_pay40, k0_pay39]
theorem pay1_at (v : FVec Ideal S1024x256 .f32) (w : FVec Ideal S1x1024x256 .f32) (j : S1x1x1.Idx) : k0_pay1 (F := Ideal) v w j
    = (∑ i : Fin 1024, ∑ d : Fin 256, w (ix3 0 i d)) + ∑ i : Fin 1024, ∑ d : Fin 256, v (ix2 i d) * v (ix2 i d) := by
  pointwise [k0_pay1]

theorem sum_tot (r : Row) (c : Book) : (∑ k : Fin 1024, ((wt r c k : ℝ) : EReal)) = ((tot r c : ℝ) : EReal) := by
  rw [coe_sum, tot]
theorem sum_wsum (r : Row) (c : Book) (d : Fin 256) :
    (∑ k : Fin 1024, ((wt r c k : ℝ) : EReal) * ((bx c 0 k d : ℝ) : EReal)) = ((wsum r c d : ℝ) : EReal) := by
  simp only [← EReal.coe_mul, coe_sum, wsum, bx]
theorem sum_wnrm (r : Row) (c : Book) :
    (∑ k : Fin 1024, ((wt r c k : ℝ) : EReal) * ((qs c 0 k : ℝ) : EReal)) = ((wnrm r c : ℝ) : EReal) := by
  simp only [← EReal.coe_mul, coe_sum, wnrm, qs]
theorem mul_quant (r : Row) (c : Book) (d : Fin 256) :
    ((wsum r c d : ℝ) : EReal) * ((1 / tot r c : ℝ) : EReal) = ((quant r c d : ℝ) : EReal) := by
  rw [← EReal.coe_mul, quant]

theorem pay22 : k0_pay22 (F := Ideal) (m2 R) (m2 fun i k => wt (R i) c k) (m2 fun i d => wsum (R i) c d)
    (m2 fun i k => wt (R i) c k) (m2 (qs c)) = ((klb R c : ℝ) : EReal) := by
  rw [pay22_at]
  simp only [m2_ix, sum_tot, sum_wnrm, div_tot, log_tot, mul_quant, Finset.univ_unique, Finset.sum_singleton, bn_log_k, Consts.two]
  simp only [← EReal.coe_mul, coe_sum, ← EReal.coe_sub, ← EReal.coe_add, kl_block, klb]
theorem pay28 : k0_pay28 (F := Ideal) (m2 R) (m2 fun i d => wsum (R i) c d) (m2 fun i (_ : Fin 1) => tot (R i) c)
    (m2 fun i (_ : Fin 1) => wnrm (R i) c) (m2 fun i (_ : Fin 1) => 1 / tot (R i) c) = ((klb R c : ℝ) : EReal) := by
  rw [pay28_at]
  simp only [m2_ix, log_tot, mul_quant, Finset.univ_unique, Finset.sum_singleton, bn_log_k, Consts.two]
  simp only [← EReal.coe_mul, coe_sum, ← EReal.coe_sub, ← EReal.coe_add, kl_block, klb]

/-- A sum started from a first part. -/
theorem kl_from (a : ℝ) : a + 2 * (∑ i, ∑ d, R i d * quant (R i) c d) - (∑ i, wnrm (R i) c * (1 / tot (R i) c))
    - (∑ i, Real.log (tot (R i) c)) + 1024 * Real.log 1024 = a + klb R c := by
  rw [klb, ← kl_block]; ring

theorem pay36 (a : ℝ) : k0_pay36 (F := Ideal) (a : EReal) (m2 R) (m2 fun i k => wt (R i) c k) (m3 (bx c)) (m2 (qs c))
    = ((a + klb R c : ℝ) : EReal) := by
  rw [pay36_at]
  simp only [m2_ix, m3_ix, sum_tot, sum_wsum, sum_wnrm, div_tot, log_tot, mul_quant, Finset.univ_unique, Finset.sum_singleton, bn_log_k, Consts.two]
  simp only [← EReal.coe_mul, coe_sum, ← EReal.coe_sub, ← EReal.coe_add, kl_from]
theorem pay45 (a b : ℝ) : k0_pay45 (F := Ideal) (a : EReal) (m2 R) (m2 fun i k => wt (R i) c k)
    (m2 fun i d => wsum (R i) c d) (b : EReal) (m1 fun i => tot (R i) c) (m2 (qs c))
    = m3 fun _ _ _ => b + (a + klb R c) := by
  funext j
  rw [pay45_at]
  simp only [m1_ix, m2_ix, m3, sum_wnrm, div_tot, log_tot, mul_quant, Finset.univ_unique, Finset.sum_singleton, bn_log_k, Consts.two]
  simp only [← EReal.coe_mul, coe_sum, ← EReal.coe_sub, ← EReal.coe_add, kl_from]

/-- The squares of a block's elements together. -/
def sqb (R : Fin 1024 → Row) : ℝ := ∑ i, ∑ d, R i d * R i d

theorem pay46 : k0_pay46 (F := Ideal) (m2 R) = m3 fun (_ : Fin 1) i d => R i d * R i d := by
  funext j; idx_vars j
  pointwise [k0_pay46, m2_ix, m3_ix]
  rw [EReal.coe_mul]
theorem pay1 (R' : Fin 1024 → Row) : k0_pay1 (F := Ideal) (m2 R) (m3 fun (_ : Fin 1) i d => R' i d * R' i d)
    = m3 fun _ _ _ => sqb R' + sqb R := by
  funext j
  rw [pay1_at]
  simp only [m2_ix, m3_ix, ← EReal.coe_mul, coe_sum, ← EReal.coe_add]
  rfl

end Cert.KernelIdeal.Stage
-- ==== Proof.CtxValue.lean ====
module

public import proofs.«01_k».proof.Proof.BodyKernelIdeal
public import proofs.«01_k».proof.Proof.KerStage
public import Idealize.ShloMosaic.Lib.Pipeline.ValueKit

/-!
What one grid point of the kernel stores when its two latent blocks and the two codebooks are arrays of real numbers.
-/

@[expose] public section

set_option maxRecDepth 16384

noncomputable section

namespace Cert.KernelIdeal.Body

open Cert.KernelIdeal Cert.KernelIdeal.Gen Idealize.ShloMosaic Idealize.ShloMosaic.TcCoe Idealize.SL.Sem
open Cert.Spec Cert.KernelIdeal.Stage

/-! ## The two halves of a carried pair -/

/-- A pair of matrices holds the second matrix where it was stored. -/
theorem mat_one (p q : Vec Ideal S1x1024x256 .bf16) :
    View.ld (View.canon ([⟨rM1, p⟩, ⟨rM0, q⟩] : List (View.Piece (Elt Ideal) S2x1024x256 .bf16))) rM1 = p :=
  funext fun x => View.canon_cons_emb rM1 p _ x
/-- A pair of matrices holds the first matrix where it was stored. -/
theorem mat_zero (p q : Vec Ideal S1x1024x256 .bf16) :
    View.ld (View.canon ([⟨rM1, p⟩, ⟨rM0, q⟩] : List (View.Piece (Elt Ideal) S2x1024x256 .bf16))) rM0 = q :=
  funext fun x => (View.canon_cons_of_not_mem ⟨rM1, p⟩ _ (y := rM0.emb x)
    (Rect.not_mem_set_of_axis _ _ 0 1 1 rfl rfl rfl (.inl (by
      have h : (x 0).val < 1 := (x 0).isLt
      show 0 + 1 * (x 0).val < 1
      omega)))).trans (View.canon_cons_emb rM0 q [] x)
theorem row_one (p q : Vec Ideal S1x1024 .f32) :
    View.ld (View.canon ([⟨rR1, p⟩, ⟨rR0, q⟩] : List (View.Piece (Elt Ideal) S2x1024 .f32))) rR1 = p :=
  funext fun x => View.canon_cons_emb rR1 p _ x
theorem row_zero (p q : Vec Ideal S1x1024 .f32) :
    View.ld (View.canon ([⟨rR1, p⟩, ⟨rR0, q⟩] : List (View.Piece (Elt Ideal) S2x1024 .f32))) rR0 = q :=
  funext fun x => (View.canon_cons_of_not_mem ⟨rR1, p⟩ _ (y := rR0.emb x)
    (Rect.not_mem_set_of_axis _ _ 0 1 1 rfl rfl rfl (.inl (by
      have h : (x 0).val < 1 := (x 0).isLt
      show 0 + 1 * (x 0).val < 1
      omega)))).trans (View.canon_cons_emb rR0 q [] x)
theorem half_one (p q : Vec Ideal S1x1024 .bf16) :
    View.ld (View.canon ([⟨rR1, p⟩, ⟨rR0, q⟩] : List (View.Piece (Elt Ideal) S2x1024 .bf16))) rR1 = p :=
  funext fun x => View.canon_cons_emb rR1 p _ x
theorem half_zero (p q : Vec Ideal S1x1024 .bf16) :
    View.ld (View.canon ([⟨rR1, p⟩, ⟨rR0, q⟩] : List (View.Piece (Elt Ideal) S2x1024 .bf16))) rR0 = q :=
  funext fun x => (View.canon_cons_of_not_mem ⟨rR1, p⟩ _ (y := rR0.emb x)
    (Rect.not_mem_set_of_axis _ _ 0 1 1 rfl rfl rfl (.inl (by
      have h : (x 0).val < 1 := (x 0).isLt
      show 0 + 1 * (x 0).val < 1
      omega)))).trans (View.canon_cons_emb rR0 q [] x)

/-- A load of a whole block is the block. -/
theorem ld_whole (x : Vec Ideal S1024x256 .f32) : View.ld x rL = x :=
  View.ld_unit_zero (by funext a; fin_cases a <;> rfl) _ x

/-! ## A point's values -/

variable (z0 z1 : Fin 1024 → Row) (c0 c1 : Book)

/-- A point over real latent blocks and real codebooks. -/
def rx : Ctx Ideal := ctx (F := Ideal) (m2 z0) (m2 z1) (m2 c0) (m2 c1)

theorem rx_s8 : (rx z0 z1 c0 c1).s8 = pre8 (F := Ideal) (m2 c0) (m2 c1) := by dsimp only [rx, ctx]
theorem rx_s9 : (rx z0 z1 c0 c1).s9 = pre9 (F := Ideal) (m2 c0) (m2 c1) := by dsimp only [rx, ctx]
theorem rx_s10 : (rx z0 z1 c0 c1).s10 = pre10 (F := Ideal) (m2 c0) (m2 c1) := by dsimp only [rx, ctx]
theorem rx_s11 : (rx z0 z1 c0 c1).s11 = pre11 (F := Ideal) (m2 c0) (m2 c1) := by dsimp only [rx, ctx]
theorem rx_v3 : (rx z0 z1 c0 c1).v3 = m2 z0 := ld_whole (m2 z0)
theorem rx_v5 : (rx z0 z1 c0 c1).v5 = m2 z1 := ld_whole (m2 z1)
theorem rx_a0 : (rx z0 z1 c0 c1).a0 = m3 (cs c0) := by
  rw [Ctx.a0, rx_s8, pre8, mat_zero, ld_whole, pay3]
theorem rx_a1 : (rx z0 z1 c0 c1).a1 = m3 (cs c1) := by
  rw [Ctx.a1, rx_s8, pre8, mat_one, ld_whole, pay8]
theorem rx_b0 : (rx z0 z1 c0 c1).b0 = m2 (ns c0) := by
  rw [Ctx.b0, rx_s9, pre9, row_zero, ld_whole, pay4]
theorem rx_b1 : (rx z0 z1 c0 c1).b1 = m2 (ns c1) := by
  rw [Ctx.b1, rx_s9, pre9, row_one, ld_whole, pay9]
theorem rx_c0 : (rx z0 z1 c0 c1).c0 = m3 (bx c0) := by
  rw [Ctx.c0, rx_s10, pre10, mat_zero, ld_whole, pay5]
theorem rx_c1 : (rx z0 z1 c0 c1).c1 = m3 (bx c1) := by
  rw [Ctx.c1, rx_s10, pre10, mat_one, ld_whole, pay10]
theorem rx_d0 : (rx z0 z1 c0 c1).d0 = m2 (qs c0) := by
  rw [Ctx.d0, rx_s11, pre11, half_zero, ld_whole, pay6]
theorem rx_d1 : (rx z0 z1 c0 c1).d1 = m2 (qs c1) := by
  rw [Ctx.d1, rx_s11, pre11, half_one, ld_whole, pay11]

theorem rx_v4 : (rx z0 z1 c0 c1).v4 = m2 z0 := by rw [Ctx.v4, rx_v3, pay12]
theorem rx_v6 : (rx z0 z1 c0 c1).v6 = m2 z1 := by rw [Ctx.v6, rx_v5, pay13]
theorem rx_v15 : (rx z0 z1 c0 c1).v15 = m2 fun i k => wt (z0 i) c0 k := by rw [Ctx.v15, rx_v3, rx_a0, rx_b0, pay14]
theorem rx_v24 : (rx z0 z1 c0 c1).v24 = m2 fun i k => wt (z1 i) c1 k := by rw [Ctx.v24, rx_v5, rx_a1, rx_b1, pay15]
theorem rx_v27 : (rx z0 z1 c0 c1).v27 = m2 fun i d => wsum (z0 i) c0 d := by
  rw [Ctx.v27, rx_v3, rx_a0, rx_b0, rx_c0, pay16]
theorem rx_v30 : (rx z0 z1 c0 c1).v30 = m2 fun i d => wsum (z1 i) c1 d := by
  rw [Ctx.v30, rx_v5, rx_a1, rx_b1, rx_c1, pay17]
theorem rx_v31 : (rx z0 z1 c0 c1).v31 = m2 fun i k => wt (z0 i) c0 k := by rw [Ctx.v31, rx_v3, rx_a0, rx_b0, pay18]
theorem rx_v63 : (rx z0 z1 c0 c1).v63 = ((klb z0 c0 : ℝ) : EReal) := by
  rw [Ctx.v63, rx_v4, rx_v15, rx_v27, rx_v31, rx_d0, pay22]
theorem rx_v64 : (rx z0 z1 c0 c1).v64 = m2 fun i => next (z0 i) c0 := by
  rw [Ctx.v64, rx_v4, rx_v27, rx_v31, pay23]
theorem rx_v67 : (rx z0 z1 c0 c1).v67 = m2 fun i (_ : Fin 1) => tot (z1 i) c1 := by rw [Ctx.v67, rx_v24, pay24]
theorem rx_v73 : (rx z0 z1 c0 c1).v73 = m2 fun i (_ : Fin 1) => wnrm (z1 i) c1 := by rw [Ctx.v73, rx_v24, rx_d1, pay25]
theorem rx_v75 : (rx z0 z1 c0 c1).v75 = m2 fun i (_ : Fin 1) => 1 / tot (z1 i) c1 := by rw [Ctx.v75, rx_v24, pay26]
theorem rx_v97 : (rx z0 z1 c0 c1).v97 = ((klb z1 c1 : ℝ) : EReal) := by
  rw [Ctx.v97, rx_v6, rx_v30, rx_v67, rx_v73, rx_v75, pay28]
theorem rx_v98 : (rx z0 z1 c0 c1).v98 = m2 fun i => next (z1 i) c1 := by
  rw [Ctx.v98, rx_v6, rx_v30, rx_v75, pay29]
theorem rx_v107 : (rx z0 z1 c0 c1).v107 = m2 fun i k => wt (next (z0 i) c0) c0 k := by
  rw [Ctx.v107, rx_v64, rx_a0, rx_b0, pay30]
theorem rx_v116 : (rx z0 z1 c0 c1).v116 = m2 fun i k => wt (next (z1 i) c1) c1 k := by
  rw [Ctx.v116, rx_v6, rx_v30, rx_v75, rx_a1, rx_b1, pay31]
theorem rx_v122 : (rx z0 z1 c0 c1).v122 = m2 fun i d => wsum (next (z1 i) c1) c1 d := by
  rw [Ctx.v122, rx_v116, rx_c1]; exact pay32 (fun i => next (z1 i) c1) c1
theorem rx_v155 : (rx z0 z1 c0 c1).v155 = ((klb z0 c0 + klb (fun i => next (z0 i) c0) c0 : ℝ) : EReal) := by
  rw [Ctx.v155, rx_v63, rx_v64, rx_v107, rx_c0, rx_d0]; exact pay36 (fun i => next (z0 i) c0) c0 _
theorem rx_v156 : (rx z0 z1 c0 c1).v156 = m2 fun i => rest (z0 i) c0 := by
  rw [Ctx.v156, rx_v64, rx_v107, rx_c0]; exact pay37 (fun i => next (z0 i) c0) c0
theorem rx_v158 : (rx z0 z1 c0 c1).v158 = m1 fun i => tot (next (z1 i) c1) c1 := by
  rw [Ctx.v158, rx_v116]; exact pay38 (fun i => next (z1 i) c1) c1
theorem rx_v190 : (rx z0 z1 c0 c1).v190 = m2 fun i => rest (z1 i) c1 := by
  rw [Ctx.v190, rx_v98, rx_v122, rx_v158]; exact pay42 (fun i => next (z1 i) c1) c1
theorem rx_v199 : (rx z0 z1 c0 c1).v199 = m3 fun (_ : Fin 1) i d => rest (z0 i) c0 d * rest (z0 i) c0 d := by
  rw [Ctx.v199, rx_v156, pay46]

/-- The divergences of a block's rows over both levels and both codebooks. -/
def klt : ℝ := (klb z0 c0 + klb (fun i => next (z0 i) c0) c0) + (klb z1 c1 + klb (fun i => next (z1 i) c1) c1)
/-- The squares of what is left of a block's rows, over both codebooks. -/
def sqt : ℝ := sqb (fun i => rest (z0 i) c0) + sqb (fun i => rest (z1 i) c1)

/-- The one cell of a partial sum written whole. -/
theorem canon_cell (p : Vec Ideal S1x1x1 .f32) :
    View.canon ([⟨rP, p⟩] : List (View.Piece (Elt Ideal) S1x1x1 .f32)) = p :=
  View.canon_cons_unit_zero (by funext a; fin_cases a <;> rfl) _ p []

/-- A point stores the divergences of its block's rows. -/
theorem rx_out5 : (rx z0 z1 c0 c1).out5 = m3 fun _ _ _ => klt z0 z1 c0 c1 := by
  rw [Ctx.out5, canon_cell, rx_v97, rx_v98, rx_v116, rx_v122, rx_v155, rx_v158, rx_d1]
  exact pay45 (fun i => next (z1 i) c1) c1 _ _
/-- A point stores the squares of what is left of its block's rows. -/
theorem rx_out6 : (rx z0 z1 c0 c1).out6 = m3 fun _ _ _ => sqt z0 z1 c0 c1 := by
  rw [Ctx.out6, canon_cell, rx_v190, rx_v199, pay1 (fun i => rest (z1 i) c1) (fun i => rest (z0 i) c0)]
  rfl

/-- A point stores the two quantised blocks side by side. -/
theorem rx_out4 : (rx z0 z1 c0 c1).out4 = m2 fun i => cat (both (z0 i) c0) (both (z1 i) c1) := by
  rw [Ctx.out4, rx_v6, rx_v98, rx_v122, rx_v158, rx_v4, rx_v156, pay43, pay44]
  funext y
  idx_vars y
  by_cases h : y1.val < 256
  · refine (View.canon_cons_of_not_mem _ _ (Rect.not_mem_set_of_axis _ _ 1 256 256 rfl rfl rfl (.inl h))).trans ?_
    have hx : rO0.emb (ix2 y0 ⟨y1.val, h⟩ : S1024x256.Idx) = ix2 y0 y1 := Rect.emb_eq_of_coords _ _ _ fun k => by
      fin_cases k
      · show y0.val = 0 + 1 * y0.val
        omega
      · show y1.val = 0 + 1 * y1.val
        omega
    refine ((congrArg _ hx.symm).trans (View.canon_cons_emb rO0 _ [] _)).trans ?_
    rw [m2_ix, m2_ix, cat, dif_pos h]
  · have h2 : y1.val - 256 < 256 := by omega
    have hx : rO1.emb (ix2 y0 ⟨y1.val - 256, h2⟩ : S1024x256.Idx) = ix2 y0 y1 := Rect.emb_eq_of_coords _ _ _ fun k => by
      fin_cases k
      · show y0.val = 0 + 1 * y0.val
        omega
      · show y1.val = 256 + 1 * (y1.val - 256)
        omega
    refine ((congrArg _ hx.symm).trans (View.canon_cons_emb rO1 _ _ _)).trans ?_
    rw [m2_ix, m2_ix, cat, dif_neg h]

end Cert.KernelIdeal.Body
-- ==== Proof.KerValue.lean ====
module

public import proofs.«01_k».proof.Proof.CtxValue
public import Idealize.ShloMosaic.Lib.Pipeline.ValueKit
public import Idealize.ShloMosaic.Lib.Claim

/-!
What the kernel leaves in its arrays when its arguments are arrays of real numbers.
-/

@[expose] public section

set_option maxRecDepth 16384

noncomputable section

namespace Cert.KernelIdeal.Body

open Cert.KernelIdeal Cert.KernelIdeal.Gen Cert.KernelIdeal.Stage
open Idealize.ShloMosaic Idealize.ShloMosaic.TcCoe Idealize.SL.Sem
open Idealize.ShloMosaic.Pipeline (Dat)
open Cert.Spec

variable (m : (ℓ : Loc nD τ sig) → Buf (Elt Ideal) ℓ) (c : Dev nD)
variable (Z0 Z1 : Fin 8 → Fin 1024 → Row) (c0 c1 : Book)

/-- The grid point `t` as a batch number. -/
def pt (t : Fin cfg0.N) : Fin 8 := ⟨t.val, t.isLt⟩

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0, 0] ∧ win0_6.index t = ![t.val, 0, 0] :=
  (by decide +kernel : ∀ t : Fin grid0.N, _)

/-- An argument reshaped to a matrix: row `r` is row `r % 1024` of batch `r / 1024`. -/
theorem flat (Z : Fin 8 → Fin 1024 → Row) : shapeCast S8192x256 (m3 Z : FVec Ideal S8x1024x256 .f32) shapeCasts_S8x1024x256_S8192x256
    = m2 fun r => Z ⟨r.val / 1024, by omega⟩ ⟨r.val % 1024, by omega⟩ := by
  funext j; idx_vars j
  pointwise [m2_ix, m3_ix]
theorem V_main_v0 : (V m c main_v0 : Vec Ideal S8192x256 .f32)
    = shapeCast S8192x256 (m ((c : Thread nD τ).loc main_arg0) : FVec Ideal S8x1024x256 .f32) shapeCasts_S8x1024x256_S8192x256 := by
  show StableHlo.after hostOps0 _ (Proc.devRef .tc main_v0) = _
  after_results
  rfl
theorem V_main_v1 : (V m c main_v1 : Vec Ideal S8192x256 .f32)
    = shapeCast S8192x256 (m ((c : Thread nD τ).loc main_arg1) : FVec Ideal S8x1024x256 .f32) shapeCasts_S8x1024x256_S8192x256 := by
  show StableHlo.after hostOps0 _ (Proc.devRef .tc main_v1) = _
  after_results
  rfl

/-- Row `i` of a point's block is row `t * 1024 + i` of the matrix. -/
theorem emb0 (t : Fin cfg0.N) (i : Fin 1024) (d : Fin 256) : ((win0_0.blk t).view.emb (ix2 i d : S1024x256.Idx) : S8192x256.Idx)
    = ix2 ⟨t.val * 1024 + i.val, by have := t.isLt; have : t.val < 8 := this; omega⟩ d := by
  blk_ext [idx t]
theorem emb1 (t : Fin cfg0.N) (i : Fin 1024) (d : Fin 256) : ((win0_1.blk t).view.emb (ix2 i d : S1024x256.Idx) : S8192x256.Idx)
    = ix2 ⟨t.val * 1024 + i.val, by have := t.isLt; have : t.val < 8 := this; omega⟩ d := by
  blk_ext [idx t]
theorem emb4 (t : Fin cfg0.N) (i : Fin 1024) (d : Fin 512) : ((win0_4.blk t).view.emb (ix2 i d : S1024x512.Idx) : S8192x512.Idx)
    = ix2 ⟨t.val * 1024 + i.val, by have := t.isLt; have : t.val < 8 := this; omega⟩ d := by
  blk_ext [idx t]
theorem emb5 (t : Fin cfg0.N) (y : S1x1x1.Idx) : ((win0_5.blk t).view.emb y : S8x1x1.Idx) = ix3 (pt t) 0 0 := by
  blk_ext [idx t, pt]
theorem emb6 (t : Fin cfg0.N) (y : S1x1x1.Idx) : ((win0_6.blk t).view.emb y : S8x1x1.Idx) = ix3 (pt t) 0 0 := by
  blk_ext [idx t, pt]

/-- The batch and the row of row `i` of batch `b`. -/
theorem at_row {α : Type} (f : Fin 8 → Fin 1024 → α) (b : Fin 8) (i : Fin 1024) (h1) (h2) :
    f ⟨(b.val * 1024 + i.val) / 1024, h1⟩ ⟨(b.val * 1024 + i.val) % 1024, h2⟩ = f b i := by
  have e1 : (⟨(b.val * 1024 + i.val) / 1024, h1⟩ : Fin 8) = b := Fin.ext (by show (b.val * 1024 + i.val) / 1024 = b.val; omega)
  have e2 : (⟨(b.val * 1024 + i.val) % 1024, h2⟩ : Fin 1024) = i := Fin.ext (by show (b.val * 1024 + i.val) % 1024 = i.val; omega)
  rw [e1, e2]

/-- The first latent's block at a point is its batch. -/
theorem blk0 (h : m ((c : Thread nD τ).loc main_arg0) = m3 Z0) (t : Fin cfg0.N) :
    (iblk m c 0 t : Vec Ideal S1024x256 .f32) = m2 (Z0 (pt t)) := by
  funext y
  blk_simp [iblk]
  idx_vars y
  rw [V_main_v0, emb0, h]
  refine (congrFun (flat Z0) _).trans ?_
  rw [m2_ix, m2_ix]
  exact congrArg _ (at_row (fun b n => Z0 b n y1) (pt t) y0 _ _)
theorem blk1 (h : m ((c : Thread nD τ).loc main_arg1) = m3 Z1) (t : Fin cfg0.N) :
    (iblk m c 1 t : Vec Ideal S1024x256 .f32) = m2 (Z1 (pt t)) := by
  funext y
  blk_simp [iblk]
  idx_vars y
  rw [V_main_v1, emb1, h]
  refine (congrFun (flat Z1) _).trans ?_
  rw [m2_ix, m2_ix]
  exact congrArg _ (at_row (fun b n => Z1 b n y1) (pt t) y0 _ _)
theorem blk2 (h : m ((c : Thread nD τ).loc main_arg2) = m2 c0) : cb0 m c = m2 c0 := by
  rw [← h]
  blk_ext! [iblk, V, idx t0_0]
theorem blk3 (h : m ((c : Thread nD τ).loc main_arg3) = m2 c1) : cb1 m c = m2 c1 := by
  rw [← h]
  blk_ext! [iblk, V, idx t0_0]

section Arrays

variable (hx : ∀ t, cx (F := Ideal) m c t = rx (Z0 (pt t)) (Z1 (pt t)) c0 c1)
include hx

theorem fin4 : ((dats m 0 c).arrAt 4 cfg0.N : Vec Ideal S8192x512 .f32) =
    m2 fun i => cat (both (Z0 ⟨i.val / 1024, by omega⟩ ⟨i.val % 1024, by omega⟩) c0)
      (both (Z1 ⟨i.val / 1024, by omega⟩ ⟨i.val % 1024, by omega⟩) c1) := by
  refine (dats m 0 c).arrAt_eq_of_covers 4 _ (by decide +kernel) fun t _ y => ?_
  blk_simp
  rw [after0_4, hx, rx_out4]
  idx_vars y
  rw [emb4, m2_ix, m2_ix]
  exact congrArg _ (at_row (fun b n => cat (both (Z0 b n) c0) (both (Z1 b n) c1) y1) (pt t) y0 _ _).symm
theorem fin5 : ((dats m 0 c).arrAt 5 cfg0.N : Vec Ideal S8x1x1 .f32) = m3 fun b _ _ => klt (Z0 b) (Z1 b) c0 c1 := by
  refine (dats m 0 c).arrAt_eq_of_covers 5 _ (by decide +kernel) fun t _ y => ?_
  blk_simp
  rw [after0_5, hx, rx_out5, emb5]
  rfl
theorem fin6 : ((dats m 0 c).arrAt 6 cfg0.N : Vec Ideal S8x1x1 .f32) = m3 fun b _ _ => sqt (Z0 b) (Z1 b) c0 c1 := by
  refine (dats m 0 c).arrAt_eq_of_covers 6 _ (by decide +kernel) fun t _ y => ?_
  blk_simp
  rw [after0_6, hx, rx_out6, emb6]
  rfl

end Arrays

/-! The host lines after the region. -/

/-- The loss from the two arrays of partial sums. -/
def lossOf (q k : FVec Ideal S8x1x1 .f32) : FVec Ideal S_ .f32 :=
  addf (Host.divf (Host.reduceAdd q (constant S_ .f32 0x00000000#32) reducesTo_S8x1x1_S_d0_1_2 h_S_) (constant S_ .f32 0x4A000000#32))
    (Host.divf (mulf (constant S_ .f32 0x3A83126F#32) (Host.reduceAdd k (constant S_ .f32 0x00000000#32) reducesTo_S8x1x1_S_d0_1_2 h_S_))
      (constant S_ .f32 0x46000000#32))

theorem tail_loss (W : Valuation τ sig (Elt Ideal)) : StableHlo.after hostOps1 W (Proc.devRef .tc main_v8)
    = lossOf (W (Proc.devRef .tc main_v2_2)) (W (Proc.devRef .tc main_v2_1)) := by
  after_results
  rfl
theorem tail_result (W : Valuation τ sig (Elt Ideal)) : StableHlo.after hostOps1 W (Proc.devRef .tc main_v9)
    = shapeCast S8x1024x512 (W (Proc.devRef .tc main_v2_0) : FVec Ideal S8192x512 .f32) shapeCasts_S8192x512_S8x1024x512 := by
  after_results
  rfl

theorem lossOf_at (q k : FVec Ideal S8x1x1 .f32) (i : S_.Idx) : lossOf q k i
    = Ideal.div (∑ b : Fin 8, ∑ u : Fin 1, ∑ v : Fin 1, q (ix3 b u v)) (Ideal.ofBits .f32 0x4A000000#32)
      + Ideal.div (Ideal.ofBits .f32 0x3A83126F#32 * ∑ b : Fin 8, ∑ u : Fin 1, ∑ v : Fin 1, k (ix3 b u v)) (Ideal.ofBits .f32 0x46000000#32) := by
  pointwise [lossOf]

theorem inj_arr : Function.Injective (Pipeline.arrRef spec0) := by decide

theorem end_loss : Pipeline.afterTail₀ cfgs (dats m) 0 (V0 m) [hostOps1] c main_v8
    = lossOf ((dats m 0 c).arrAt 6 cfg0.N) ((dats m 0 c).arrAt 5 cfg0.N) := by
  unfold Pipeline.afterTail₀
  refine (tail_loss _).trans ?_
  exact congrArg₂ lossOf (Pipeline.withArrays_arr spec0 inj_arr c (V0 m c) _ 6) (Pipeline.withArrays_arr spec0 inj_arr c (V0 m c) _ 5)
theorem end_result : Pipeline.afterTail₀ cfgs (dats m) 0 (V0 m) [hostOps1] c main_v9
    = shapeCast S8x1024x512 ((dats m 0 c).arrAt 4 cfg0.N : FVec Ideal S8192x512 .f32) shapeCasts_S8192x512_S8x1024x512 := by
  unfold Pipeline.afterTail₀
  refine (tail_result _).trans ?_
  exact congrArg (fun v => shapeCast S8x1024x512 (v : FVec Ideal S8192x512 .f32) shapeCasts_S8192x512_S8x1024x512)
    (Pipeline.withArrays_arr spec0 inj_arr c (V0 m c) _ 4)

/-- The result's rows are the matrix's rows, batch by batch. -/
theorem unflat (f : Fin 8 → Fin 1024 → Fin 512 → ℝ) : shapeCast S8x1024x512 (m2 (fun (r : Fin 8192) =>
      f ⟨r.val / 1024, by omega⟩ ⟨r.val % 1024, by omega⟩) : FVec Ideal S8192x512 .f32) shapeCasts_S8192x512_S8x1024x512 = m3 f := by
  funext j; idx_vars j
  pointwise [m2_ix, m3_ix]
  exact congrArg _ (at_row (fun b n => f b n j2) j0 j1 _ _)

/-- The region's context at a point, for arguments of reals. -/
theorem cx_real (h0 : m ((c : Thread nD τ).loc main_arg0) = m3 Z0) (h1 : m ((c : Thread nD τ).loc main_arg1) = m3 Z1)
    (h2 : m ((c : Thread nD τ).loc main_arg2) = m2 c0) (h3 : m ((c : Thread nD τ).loc main_arg3) = m2 c1) (t : Fin cfg0.N) :
    cx (F := Ideal) m c t = rx (Z0 (pt t)) (Z1 (pt t)) c0 c1 := by
  show ctx _ _ _ _ = _
  rw [blk0 m c Z0 h0, blk1 m c Z1 h1, blk2 m c c0 h2, blk3 m c c1 h3]
  rfl

end Cert.KernelIdeal.Body

end
-- ==== Proof.RefValue.lean ====
module

public import proofs.«01_k».proof.Proof.Gen.ReferenceIdeal.Read
public import proofs.«01_k».proof.Proof.Spec
public import proofs.«01_k».proof.Proof.Consts

/-!
What the reference computes when its arguments are arrays of real numbers. Each of its two codebooks and each of its two
levels is the same function, so one level over one codebook is read once.
-/

@[expose] public section

set_option maxRecDepth 16384

noncomputable section

namespace Cert.ReferenceIdeal.Level

open Cert.ReferenceIdeal Cert.ReferenceIdeal.Gen Cert.ReferenceIdeal.Read
open Idealize.ShloMosaic Idealize.ShloMosaic.TcCoe Idealize.SL.Sem Idealize.ShloMosaic.StableHlo
open Cert.Spec

variable (x : (⟨S8x1024x256, .f32⟩ : BufTy).Contents (Elt Ideal)) (w : (⟨S1024x256, .f32⟩ : BufTy).Contents (Elt Ideal)) (Z : Fin 8 → Fin 1024 → Row) (c : Book)

theorem div_real (a s : ℝ) (h : s ≠ 0) : Ideal.div ((a : ℝ) : EReal) ((s : ℝ) : EReal) = ((a * (1 / s) : ℝ) : EReal) := by
  rw [Ideal.div_coe h, EReal.coe_mul]
theorem div_unit (a : ℝ) : Ideal.div ((a : ℝ) : EReal) 1 = ((a : ℝ) : EReal) := by
  have h := div_real a 1 one_ne_zero
  rw [EReal.coe_one] at h
  rw [h]; norm_num
theorem log_real (s : ℝ) (h : 0 < s) : Ideal.log ((s : ℝ) : EReal) = ((Real.log s : ℝ) : EReal) := by
  rw [Ideal.log_coe, if_neg (not_le.mpr h)]
theorem exp_real (a : ℝ) : Ideal.exp ((a : ℝ) : EReal) = ((Real.exp a : ℝ) : EReal) := rfl

/-! One level over one codebook, an element at a time. -/

theorem logits_at (b : Fin 8) (n k : Fin 1024) : val_main_v17 (F := Ideal) x w (ix3 b n k)
    = Ideal.div (-((∑ d : Fin 256, x (ix3 b n d) * x (ix3 b n d))
      - Ideal.ofBits .f32 0x40000000#32 * (∑ d : Fin 256, x (ix3 b n d) * w (ix2 k d))
      + ∑ d : Fin 256, w (ix2 k d) * w (ix2 k d))) 1 := by
  pointwise [val_main_v17, val_main_v16, val_main_cst_4, val_main_v15, val_main_v14, val_main_v13, val_main_v12,
    val_main_v11, val_main_cst_3, val_main_v10, val_main_v9, val_main_v8, val_main_v7, val_main_v6, val_main_cst_2,
    val_main_v5, val_main_v4, val_main_v3, val_main_cst_1, val_main_v2]
theorem largest_at (b : Fin 8) (n : Fin 1024) : val_main_call0_v0 (F := Ideal) x w (ix2 b n)
    = (Finset.univ : Finset (Fin 1024)).fold max (⊥ : EReal) fun k => val_main_v17 (F := Ideal) x w (ix3 b n k) := by
  unfold val_main_call0_v0
  generalize val_main_v17 (F := Ideal) x w = y
  refine (Host.reduce_eq_fold (max : EReal → EReal → EReal) y _ _ _ _).trans ?_
  rw [Shape.ReducesTo.fold_fiber_r3_a2]
  have hb : val_main_call0_cst (F := Ideal) (Shape.Idx.first h_S_) = (⊥ : EReal) := Consts.bot
  rw [hb]
  rfl
theorem logp_at (b : Fin 8) (n k : Fin 1024) : val_main_v18 (F := Ideal) x w (ix3 b n k)
    = val_main_v17 (F := Ideal) x w (ix3 b n k) - val_main_call0_v2 (F := Ideal) x w (ix2 b n)
      - Ideal.log (∑ j : Fin 1024, Ideal.exp (val_main_v17 (F := Ideal) x w (ix3 b n j) - val_main_call0_v2 (F := Ideal) x w (ix2 b n))) := by
  pointwise [val_main_v18, val_main_call0_v10, val_main_call0_v9, val_main_call0_v8, val_main_call0_v7,
    val_main_call0_cst_1, val_main_call0_v6, val_main_call0_v5, val_main_call0_v4, val_main_call0_v3]
theorem quants_at (b : Fin 8) (n : Fin 1024) (d : Fin 256) : val_main_v20 (F := Ideal) x w (ix3 b n d)
    = ∑ k : Fin 1024, Ideal.exp (val_main_v18 (F := Ideal) x w (ix3 b n k)) * w (ix2 k d) := by
  pointwise [val_main_v20, val_main_v19]
theorem kls_at (i : S_.Idx) : val_main_v25 (F := Ideal) x w i
    = ∑ b : Fin 8, ∑ n : Fin 1024, ∑ k : Fin 1024, Ideal.exp (val_main_v18 (F := Ideal) x w (ix3 b n k))
      * (val_main_v18 (F := Ideal) x w (ix3 b n k) + Ideal.log (Ideal.ofBits .f32 0x44800000#32)) := by
  pointwise [val_main_v25, val_main_cst_6, val_main_v24, val_main_cst_5, val_main_v23, val_main_v22, val_main_v21,
    val_main_v0, val_main_cst, val_main_v19]

/-! The same at arrays of real numbers. -/

/-- The logits are minus the squared distances. -/
theorem logits : val_main_v17 (F := Ideal) (m3 Z) (m2 c) = m3 fun b n k => nd (Z b n) c k := by
  funext j; idx_vars j
  rw [logits_at]
  simp only [m2_ix, m3_ix, Consts.two, ← EReal.coe_mul, coe_sum, ← EReal.coe_sub, ← EReal.coe_add, ← EReal.coe_neg, div_unit]
  rfl

/-- The largest logit of a row is a real number. -/
theorem largest : ∃ M : Fin 8 → Fin 1024 → ℝ, val_main_call0_v2 (F := Ideal) (m3 Z) (m2 c) = m2 M := by
  choose M hM using fun b n => fold_max (nd (Z b n) c)
  refine ⟨M, ?_⟩
  funext j; idx_vars j
  rw [val_main_call0_v2_apply, largest_at, logits]
  simp only [m3_ix, hM, m2_ix]
  rw [val_main_call0_v1_apply, val_main_call0_cst_0_apply]
  exact (congrArg (max · _) Consts.bot).trans (max_eq_right bot_le)

/-- The log-probabilities. -/
theorem logp : val_main_v18 (F := Ideal) (m3 Z) (m2 c) = m3 fun b n k => lp (Z b n) c k := by
  obtain ⟨M, hM⟩ := largest Z c
  funext j; idx_vars j
  rw [logp_at, hM, logits]
  simp only [m2_ix, m3_ix, ← EReal.coe_sub, exp_real, coe_sum]
  rw [log_real _ (Finset.sum_pos (fun _ _ => Real.exp_pos _) Finset.univ_nonempty), ← EReal.coe_sub, lp_shift]

/-- The quantised rows. -/
theorem quants : val_main_v20 (F := Ideal) (m3 Z) (m2 c) = m3 fun b n d => quant (Z b n) c d := by
  funext j; idx_vars j
  rw [quants_at, logp]
  simp only [m2_ix, m3_ix, exp_real, ← EReal.coe_mul, coe_sum, sum_prob]

/-- The sum of all rows' divergences. -/
theorem kls (i : S_.Idx) : val_main_v25 (F := Ideal) (m3 Z) (m2 c) i = ((∑ b, ∑ n, kl (Z b n) c : ℝ) : EReal) := by
  rw [kls_at, logp, Consts.words, log_real _ (by norm_num)]
  simp only [m3_ix, exp_real, ← EReal.coe_add, ← EReal.coe_mul, coe_sum]
  rfl

/-- What one level leaves. -/
theorem nexts : val_main_v29 (F := Ideal) (m3 Z) (m2 c) = m3 fun b n => next (Z b n) c := by
  funext j; idx_vars j
  rw [val_main_v29_apply, quants]
  exact (EReal.coe_sub _ _).symm

/-- The second level's quantisation is the first level's at what the first leaves. -/
theorem second : val_main_v48 (F := Ideal) x w = val_main_v20 (val_main_v29 x w) w := rfl
/-- The second level's divergence likewise. -/
theorem second_kl : val_main_v53 (F := Ideal) x w = val_main_v25 (val_main_v29 x w) w := rfl

/-- The two levels' quantisations together. -/
theorem boths : val_main_v56 (F := Ideal) (m3 Z) (m2 c) = m3 fun b n => both (Z b n) c := by
  funext j; idx_vars j
  rw [val_main_v56_apply, second, nexts, quants, val_main_v28_apply, quants]
  pointwise [val_main_v1, val_main_cst_0, m3_ix, both]
  exact (EReal.coe_add _ _).symm

theorem squares_at (i : S_.Idx) : val_main_v60 (F := Ideal) x w i
    = ∑ b : Fin 8, ∑ n : Fin 1024, ∑ d : Fin 256, (x (ix3 b n d) - val_main_v56 (F := Ideal) x w (ix3 b n d))
      * (x (ix3 b n d) - val_main_v56 (F := Ideal) x w (ix3 b n d)) := by
  pointwise [val_main_v60, val_main_cst_16, val_main_v59, val_main_v58]

/-- The squares of what two levels leave. -/
theorem squares (i : S_.Idx) : val_main_v60 (F := Ideal) (m3 Z) (m2 c) i
    = ((∑ b, ∑ n, ∑ d, rest (Z b n) c d * rest (Z b n) c d : ℝ) : EReal) := by
  rw [squares_at, boths]
  simp only [m3_ix, ← EReal.coe_sub, ← EReal.coe_mul, coe_sum, rest_eq]

/-- One codebook's part of the loss. -/
def part (Z : Fin 8 → Fin 1024 → Row) (c : Book) : ℝ :=
  (∑ b, ∑ n, ∑ d, rest (Z b n) c d * rest (Z b n) c d) * (1 / 2097152)
    + Consts.kw * ((∑ b, ∑ n, kl (Z b n) c) * (1 / 8192) + (∑ b, ∑ n, kl (next (Z b n) c) c) * (1 / 8192))

theorem part_at (i : S_.Idx) : val_main_v63 (F := Ideal) x w i
    = Ideal.div (val_main_v60 (F := Ideal) x w i) (Ideal.ofBits .f32 0x4A000000#32)
      + Ideal.ofBits .f32 0x3A83126F#32 * (Ideal.div (val_main_v25 (F := Ideal) x w i) (Ideal.ofBits .f32 0x46000000#32)
        + Ideal.div (val_main_v53 (F := Ideal) x w i) (Ideal.ofBits .f32 0x46000000#32)) := by
  pointwise [val_main_v63, val_main_v62, val_main_v61, val_main_v55, val_main_v54, val_main_v27, val_main_v26, val_main_cst_18,
    val_main_cst_17, val_main_cst_15, val_main_cst_8, val_main_cst_7]

theorem parts (i : S_.Idx) : val_main_v63 (F := Ideal) (m3 Z) (m2 c) i = ((part Z c : ℝ) : EReal) := by
  rw [part_at, squares, second_kl, nexts, kls, kls, Consts.elems, Consts.rows, Consts.weight, div_real _ _ (by norm_num),
    div_real _ _ (by norm_num), div_real _ _ (by norm_num)]
  simp only [← EReal.coe_add, ← EReal.coe_mul, part]

/-! The two results. -/

variable (x' : (⟨S8x1024x256, .f32⟩ : BufTy).Contents (Elt Ideal)) (w' : (⟨S1024x256, .f32⟩ : BufTy).Contents (Elt Ideal))

/-- The second codebook's part of the loss is the first's at the second latent. -/
theorem other_part : val_main_v127 (F := Ideal) x' w' = val_main_v63 x' w' := rfl
/-- The second codebook's quantisation likewise. -/
theorem other_boths : val_main_v120 (F := Ideal) x' w' = val_main_v56 x' w' := rfl

variable (Z0 Z1 : Fin 8 → Fin 1024 → Row) (c0 c1 : Book)

theorem loss (i : S_.Idx) : val_main_v128 (F := Ideal) (m3 Z0) (m3 Z1) (m2 c0) (m2 c1) i
    = ((part Z0 c0 + part Z1 c1 : ℝ) : EReal) := by
  rw [val_main_v128_apply, other_part, parts, parts]
  exact (EReal.coe_add _ _).symm

theorem result : val_main_v129 (F := Ideal) (m3 Z0) (m3 Z1) (m2 c0) (m2 c1)
    = m3 fun b n => cat (both (Z0 b n) c0) (both (Z1 b n) c1) := by
  rw [val_main_v129, other_boths, boths, boths]
  funext j; idx_vars j
  pointwise [m3_ix, cat]
  split <;> rfl

end Cert.ReferenceIdeal.Level
-- ==== Proof.Algebraic.lean ====
module

public import proofs.«01_k».proof.Proof.KerValue
public import proofs.«01_k».proof.Proof.RefValue
public import proofs.«01_k».proof.Proof.Finite
public import proofs.«01_k».proof.Proof.Frames

/-!
The kernel and the reference leave the same loss and the same result.
-/

@[expose] public section

set_option maxRecDepth 16384

noncomputable section

namespace Cert.Proof

open Idealize.ShloMosaic Idealize.ShloMosaic.TcCoe Idealize.SL.Sem
open Cert.Spec Cert.KernelIdeal.Stage Cert.KernelIdeal.Body
open Cert.ReferenceIdeal.Level (part)

section Value

variable (Z0 Z1 : Fin 8 → Fin 1024 → Row) (c0 c1 : Book)

/-- Summing the blocks' partial sums and scaling them is summing each codebook's parts. -/
theorem parts : (∑ b, sqt (Z0 b) (Z1 b) c0 c1) * (1 / 2097152)
      + (Consts.kw * ∑ b, klt (Z0 b) (Z1 b) c0 c1) * (1 / 8192)
    = part Z0 c0 + part Z1 c1 := by
  unfold klt sqt klb sqb part
  simp only [Finset.sum_add_distrib]
  ring

/-- The kernel's loss from its partial sums. -/
theorem loss_real (i : Cert.KernelIdeal.S_.Idx) :
    lossOf (m3 fun (b : Fin 8) (_ : Fin 1) (_ : Fin 1) => sqt (Z0 b) (Z1 b) c0 c1)
      (m3 fun (b : Fin 8) (_ : Fin 1) (_ : Fin 1) => klt (Z0 b) (Z1 b) c0 c1) i
    = ((part Z0 c0 + part Z1 c1 : ℝ) : EReal) := by
  rw [lossOf_at, Consts.elems, Consts.rows, Consts.weight]
  simp only [m3_ix, Fin.sum_univ_one, coe_sum, ← EReal.coe_mul]
  rw [Cert.ReferenceIdeal.Level.div_real _ _ (by norm_num), Cert.ReferenceIdeal.Level.div_real _ _ (by norm_num),
    ← EReal.coe_add, parts]

variable (m : (ℓ : Loc Cert.KernelIdeal.nD Cert.KernelIdeal.τ Cert.KernelIdeal.sig) → Buf (Elt Ideal) ℓ)
  (c : Dev Cert.KernelIdeal.nD)
variable (hx : ∀ t, cx (F := Ideal) m c t = rx (Z0 (pt t)) (Z1 (pt t)) c0 c1)
include hx

/-- The kernel's loss is the reference's. -/
theorem same_loss : (Pipeline.afterTail₀ Cert.KernelIdeal.cfgs (dats m) 0 (Cert.KernelIdeal.Gen.V0 m) [Cert.KernelIdeal.Gen.hostOps1] c Cert.KernelIdeal.main_v8
      : FVec Ideal Cert.KernelIdeal.S_ .f32)
    = Cert.ReferenceIdeal.Read.val_main_v128 (F := Ideal) (m3 Z0) (m3 Z1) (m2 c0) (m2 c1) := by
  refine (end_loss m c).trans ?_
  rw [fin6 m c Z0 Z1 c0 c1 hx, fin5 m c Z0 Z1 c0 c1 hx]
  funext i
  exact (loss_real Z0 Z1 c0 c1 i).trans (Cert.ReferenceIdeal.Level.loss Z0 Z1 c0 c1 i).symm

/-- The kernel's result is the reference's. -/
theorem same_result : (Pipeline.afterTail₀ Cert.KernelIdeal.cfgs (dats m) 0 (Cert.KernelIdeal.Gen.V0 m) [Cert.KernelIdeal.Gen.hostOps1] c Cert.KernelIdeal.main_v9
      : FVec Ideal Cert.KernelIdeal.S8x1024x512 .f32)
    = Cert.ReferenceIdeal.Read.val_main_v129 (F := Ideal) (m3 Z0) (m3 Z1) (m2 c0) (m2 c1) := by
  refine (end_result m c).trans ?_
  rw [fin4 m c Z0 Z1 c0 c1 hx]
  exact (unflat fun b n => cat (both (Z0 b n) c0) (both (Z1 b n) c1)).trans (Cert.ReferenceIdeal.Level.result Z0 Z1 c0 c1).symm

end Value

/-- From arguments that are real numbers the kernel's run and the reference's leave equal losses and equal results. -/
theorem algebraic : Cert.algebraic_KernelIdeal_ReferenceIdeal_pre_finite := by
  intro m g m' g' hp ha
  refine ⟨fun c => Pipeline.afterTail₀ Cert.KernelIdeal.cfgs (dats m) 0 (Cert.KernelIdeal.Gen.V0 m) [Cert.KernelIdeal.Gen.hostOps1] c Cert.KernelIdeal.main_v8,
    fun c => Pipeline.afterTail₀ Cert.KernelIdeal.cfgs (dats m) 0 (Cert.KernelIdeal.Gen.V0 m) [Cert.KernelIdeal.Gen.hostOps1] c Cert.KernelIdeal.main_v9, ?_, ?_⟩
  · have hr := run_main (F := Ideal) m g
    have hf := Cert.KernelIdeal.Gen.frame_of m g (dats m) (fun _ _ => rfl) ((θ_run Cert.KernelIdeal.defs _ _).mono (fun _ h => h.1) hr)
    refine (θ_run Cert.KernelIdeal.defs _ _).mono (fun r h c => ?_) (θ_run_and hr hf)
    exact ⟨(h.1.1 c).2 Cert.KernelIdeal.main_v8 (Pipeline.mem_restRefs_of Cert.KernelIdeal.main_v8 (by decide) (by decide)),
      (h.1.1 c).2 Cert.KernelIdeal.main_v9 (Pipeline.mem_restRefs_of Cert.KernelIdeal.main_v9 (by decide) (by decide)), h.2 c⟩
  · refine (θ_run Cert.ReferenceIdeal.defs _ _).mono (fun r h c => ?_) (Cert.ReferenceIdeal.Value.run (F := Ideal) m' g')
    obtain ⟨Z0, Z1, c0, c1, e0, e1, e2, e3⟩ := Cert.Finite.real_of_fn _ _ _ _ (hp c)
    obtain ⟨a0, a1, a2, a3⟩ := ha c
    have hx := cx_real m c Z0 Z1 c0 c1 e0 e1 e2 e3
    have l0 : StableHlo.launchContents m' c (Proc.devRef .tc Cert.ReferenceIdeal.main_arg0) = m3 Z0 := a0.trans e0
    have l1 : StableHlo.launchContents m' c (Proc.devRef .tc Cert.ReferenceIdeal.main_arg1) = m3 Z1 := a1.trans e1
    have l2 : StableHlo.launchContents m' c (Proc.devRef .tc Cert.ReferenceIdeal.main_arg2) = m2 c0 := a2.trans e2
    have l3 : StableHlo.launchContents m' c (Proc.devRef .tc Cert.ReferenceIdeal.main_arg3) = m2 c1 := a3.trans e3
    refine ⟨?_, ?_, (h c).2.2⟩
    · refine ((h c).1.trans (Cert.ReferenceIdeal.Read.val_main_v128_eq (StableHlo.launchContents m' c))).trans ?_
      refine Eq.trans ?_ (same_loss Z0 Z1 c0 c1 m c hx).symm
      rw [l0, l1, l2, l3]
    · refine ((h c).2.1.trans (Cert.ReferenceIdeal.Read.val_main_v129_eq (StableHlo.launchContents m' c))).trans ?_
      refine Eq.trans ?_ (same_result Z0 Z1 c0 c1 m c hx).symm
      rw [l0, l1, l2, l3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read

public import proofs.«01_k».proof.Proof.Frames
public import proofs.«01_k».proof.Proof.Finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Finite.facts, frame_p, frame_pi, fun m g _ => frame_pi m g trivial, frame_ri, fun m g _ => frame_ri m g trivial,
  preserves, algebraic⟩

end Cert.Proof

end
